-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_untied [hPre_finite_untied : Cert.Pre_finite_untied.Facts] (m : (ℓ : Loc Cert.KernelIdeal.nD Cert.KernelIdeal.τ Cert.KernelIdeal.sig) → Buf (Elt Ideal) ℓ) : Prop :=
  ∀ c : Dev Cert.KernelIdeal.nD,
    (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_untied [hPre_finite_untied : Cert.Pre_finite_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_untied [hKernelIdeal : Cert.KernelIdeal.Facts] [hPre_finite_untied : Cert.Pre_finite_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_untied [hReferenceIdeal : Cert.ReferenceIdeal.Facts] [hPre_finite_untied : Cert.Pre_finite_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_untied [hKernelIdeal : Cert.KernelIdeal.Facts] [hReferenceIdeal : Cert.ReferenceIdeal.Facts] [hPre_finite_untied : Cert.Pre_finite_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v186_0)) (v1 : (c : Dev Cert.KernelIdeal.nD) → Buf (Elt Ideal) ((c.tc : Thread Cert.KernelIdeal.nD Cert.KernelIdeal.τ).loc Cert.KernelIdeal.main_v186_1)) (v2 : (c : Dev Cert.KernelIdeal.nD) → Buf (Elt Ideal) ((c.tc : Thread Cert.KernelIdeal.nD Cert.KernelIdeal.τ).loc Cert.KernelIdeal.main_v186_2)) (v3 : (c : Dev Cert.KernelIdeal.nD) → Buf (Elt Ideal) ((c.tc : Thread Cert.KernelIdeal.nD Cert.KernelIdeal.τ).loc Cert.KernelIdeal.main_v186_3)) (v4 : (c : Dev Cert.KernelIdeal.nD) → Buf (Elt Ideal) ((c.tc : Thread Cert.KernelIdeal.nD Cert.KernelIdeal.τ).loc Cert.KernelIdeal.main_v186_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v186_0) = v0 c
          ∧ r.2.mem ((c.tc : Thread Cert.KernelIdeal.nD Cert.KernelIdeal.τ).loc Cert.KernelIdeal.main_v186_1) = v1 c
          ∧ r.2.mem ((c.tc : Thread Cert.KernelIdeal.nD Cert.KernelIdeal.τ).loc Cert.KernelIdeal.main_v186_2) = v2 c
          ∧ r.2.mem ((c.tc : Thread Cert.KernelIdeal.nD Cert.KernelIdeal.τ).loc Cert.KernelIdeal.main_v186_3) = v3 c
          ∧ r.2.mem ((c.tc : Thread Cert.KernelIdeal.nD Cert.KernelIdeal.τ).loc Cert.KernelIdeal.main_v186_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v268) = v0 c
          ∧ r.2.mem ((c.tc : Thread Cert.ReferenceIdeal.nD Cert.ReferenceIdeal.τ).loc Cert.ReferenceIdeal.main_v254) = v1 c
          ∧ r.2.mem ((c.tc : Thread Cert.ReferenceIdeal.nD Cert.ReferenceIdeal.τ).loc Cert.ReferenceIdeal.main_v269) = v2 c
          ∧ r.2.mem ((c.tc : Thread Cert.ReferenceIdeal.nD Cert.ReferenceIdeal.τ).loc Cert.ReferenceIdeal.main_v230) = v3 c
          ∧ r.2.mem ((c.tc : Thread Cert.ReferenceIdeal.nD Cert.ReferenceIdeal.τ).loc Cert.ReferenceIdeal.main_v270) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_untied : Cert.Pre_finite_untied.Facts),
    quiescent_Kernel (hKernel := hKernel)
    ∧ quiescent_KernelIdeal (hKernelIdeal := hKernelIdeal)
    ∧ quiescent_KernelIdeal_pre_finite_untied (hKernelIdeal := hKernelIdeal) (hPre_finite_untied := hPre_finite_untied)
    ∧ quiescent_ReferenceIdeal (hReferenceIdeal := hReferenceIdeal)
    ∧ quiescent_ReferenceIdeal_pre_finite_untied (hReferenceIdeal := hReferenceIdeal) (hPre_finite_untied := hPre_finite_untied)
    ∧ preserves_Kernel_KernelIdeal
    ∧ algebraic_KernelIdeal_ReferenceIdeal_pre_finite_untied (hKernelIdeal := hKernelIdeal) (hReferenceIdeal := hReferenceIdeal) (hPre_finite_untied := hPre_finite_untied)
-- ==== Pre_finite_untied.lean ====
abbrev S65536x128 : Shape := ⟨2, ![65536, 128]⟩
abbrev S65536 : Shape := ⟨1, ![65536]⟩
abbrev S128x128 : Shape := ⟨2, ![128, 128]⟩
abbrev S128 : Shape := ⟨1, ![128]⟩
abbrev S32x128 : Shape := ⟨2, ![32, 128]⟩
abbrev S32 : Shape := ⟨1, ![32]⟩
abbrev S512x32 : Shape := ⟨2, ![512, 32]⟩
abbrev S1x128 : Shape := ⟨2, ![1, 128]⟩
abbrev S_ : Shape := ⟨0, ![]⟩
abbrev S128x32 : Shape := ⟨2, ![128, 32]⟩
abbrev S65536x32 : Shape := ⟨2, ![65536, 32]⟩
abbrev S1x32 : Shape := ⟨2, ![1, 32]⟩
abbrev S65536x1 : Shape := ⟨2, ![65536, 1]⟩
abbrev S512 : Shape := ⟨1, ![512]⟩
abbrev S1x512 : Shape := ⟨2, ![1, 512]⟩
abbrev S65536x512 : Shape := ⟨2, ![65536, 512]⟩
abbrev S32x512 : Shape := ⟨2, ![32, 512]⟩

class Facts : Prop where
  transposes_S128x128_S128x128_1_0 : S128x128.Transposes [1, 0] S128x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  transposes_S32x128_S128x32_1_0 : S32x128.Transposes [1, 0] S128x32
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  reducesTo_S65536x32_S65536_d1 : S65536x32.ReducesTo [1] S65536
  h_S_ : 0 < S_.numel
  bcast_S65536_S65536x1_0 : S65536.BroadcastsInDim S65536x1 (![0] : Fin 1 → Fin S65536x1.rank)
  reducesTo_S512x32_S512_d1 : S512x32.ReducesTo [1] S512
  bcast_S512_S1x512_1 : S512.BroadcastsInDim S1x512 (![1] : Fin 1 → Fin S1x512.rank)
  bcast_S65536x1_S65536x512_0_1 : S65536x1.BroadcastsInDim S65536x512 (![0, 1] : Fin 2 → Fin S65536x512.rank)
  bcast_S1x512_S65536x512_0_1 : S1x512.BroadcastsInDim S65536x512 (![0, 1] : Fin 2 → Fin S65536x512.rank)
  transposes_S512x32_S32x512_1_0 : S512x32.Transposes [1, 0] S32x512
  bcast_S_S65536x512 : S_.BroadcastsInDim S65536x512 (![] : Fin 0 → Fin S65536x512.rank)
  reducesTo_S65536x512_S65536_d1 : S65536x512.ReducesTo [1] S65536
  bcast_S_S128x128 : S_.BroadcastsInDim S128x128 (![] : Fin 0 → Fin S128x128.rank)
  bcast_S_S128 : S_.BroadcastsInDim S128 (![] : Fin 0 → Fin S128.rank)
  bcast_S_S32x128 : S_.BroadcastsInDim S32x128 (![] : Fin 0 → Fin S32x128.rank)
  bcast_S_S32 : S_.BroadcastsInDim S32 (![] : Fin 0 → Fin S32.rank)
  bcast_S_S512x32 : S_.BroadcastsInDim S512x32 (![] : Fin 0 → Fin S512x32.rank)
  dot_S65536x128_S128x128_S65536x128_1_0_0_1_n_n_wf : DotDims.WF S65536x128 S128x128 S65536x128 [1] [0] [0] [1] [] []
  dot_S65536x128_S128x32_S65536x32_1_0_0_1_n_n_wf : DotDims.WF S65536x128 S128x32 S65536x32 [1] [0] [0] [1] [] []
  dot_S65536x32_S32x512_S65536x512_1_0_0_1_n_n_wf : DotDims.WF S65536x32 S32x512 S65536x512 [1] [0] [0] [1] [] []

variable [Facts]

def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def dot_S65536x128_S128x32_S65536x32_1_0_0_1_n_n : DotDims S65536x128 S128x32 S65536x32 where
  lhsContracting := [1]
  rhsContracting := [0]
  lhsNonContracting := [0]
  rhsNonContracting := [1]
  lhsBatch := []
  rhsBatch := []
  wf := dot_S65536x128_S128x32_S65536x32_1_0_0_1_n_n_wf
def dot_S65536x32_S32x512_S65536x512_1_0_0_1_n_n : DotDims S65536x32 S32x512 S65536x512 where
  lhsContracting := [1]
  rhsContracting := [0]
  lhsNonContracting := [0]
  rhsNonContracting := [1]
  lhsBatch := []
  rhsBatch := []
  wf := dot_S65536x32_S32x512_S65536x512_1_0_0_1_n_n_wf
def fn_clip {F : FTy → Type} [FloatOps F] (arg0 : FVec F S65536x512 .f32) (arg1 : FVec F S_ .f32) (arg2 : FVec F S_ .f32) : FVec F S65536x512 .f32 :=
  let v0 : FVec F S_ .f32 := id arg1
  let v1 : FVec F S65536x512 .f32 := broadcastInDim S65536x512 ![] bcast_S_S65536x512 v0
  let v2 : FVec F S65536x512 .f32 := maximumf v1 arg0
  let v3 : FVec F S_ .f32 := id arg2
  let v4 : FVec F S65536x512 .f32 := broadcastInDim S65536x512 ![] bcast_S_S65536x512 v3
  let v5 : FVec F S65536x512 .f32 := minimumf v4 v2
  v5

def fn_where {F : FTy → Type} [FloatOps F] (arg0 : IVec S65536x512 1) (arg1 : IVec S65536x512 32) (arg2 : IVec S_ 32) : IVec S65536x512 32 :=
  let v0 : IVec S_ 32 := id arg2
  let v1 : IVec S65536x512 32 := broadcastInDim S65536x512 ![] bcast_S_S65536x512 v0
  let v2 : IVec S65536x512 32 := select arg0 arg1 v1
  v2

def fn_part13 {F : FTy → Type} [FloatOps F] (main_arg2 : FVec F S128x128 .f32) (main_arg3 : FVec F S128 .f32) (main_arg4 : FVec F S32x128 .f32) (main_arg5 : FVec F S32 .f32) (main_arg6 : FVec F S512x32 .f32) (main_v226 : IVec S65536x512 1) (main_v237 : IVec S65536x512 1) (main_v238 : FVec F S65536x128 .f32) (main_cst_70 : FVec F S_ .f32) : IVec S65536x128 1 × IVec S128x128 1 × IVec S128 1 × IVec S32x128 1 × IVec S32 1 × IVec S512x32 1 × IVec S65536x512 1 :=
  let main_v239 : FVec F S65536x128 .f32 := broadcastInDim S65536x128 ![] bcast_S_S65536x128 main_cst_70
  let main_v240 : IVec S65536x128 1 := cmpf .olt main_v238 main_v239
  let main_v241 : FVec F S128x128 .f32 := Host.absf main_arg2
  let main_cst_71 : FVec F S_ .f32 := constant S_ .f32 0x7F800000#32
  let main_v242 : FVec F S128x128 .f32 := broadcastInDim S128x128 ![] bcast_S_S128x128 main_cst_71
  let main_v243 : IVec S128x128 1 := cmpf .olt main_v241 main_v242
  let main_v244 : FVec F S128 .f32 := Host.absf main_arg3
  let main_cst_72 : FVec F S_ .f32 := constant S_ .f32 0x7F800000#32
  let main_v245 : FVec F S128 .f32 := broadcastInDim S128 ![] bcast_S_S128 main_cst_72
  let main_v246 : IVec S128 1 := cmpf .olt main_v244 main_v245
  let main_v247 : FVec F S32x128 .f32 := Host.absf main_arg4
  let main_cst_73 : FVec F S_ .f32 := constant S_ .f32 0x7F800000#32
  let main_v248 : FVec F S32x128 .f32 := broadcastInDim S32x128 ![] bcast_S_S32x128 main_cst_73
  let main_v249 : IVec S32x128 1 := cmpf .olt main_v247 main_v248
  let main_v250 : FVec F S32 .f32 := Host.absf main_arg5
  let main_cst_74 : FVec F S_ .f32 := constant S_ .f32 0x7F800000#32
  let main_v251 : FVec F S32 .f32 := broadcastInDim S32 ![] bcast_S_S32 main_cst_74
  let main_v252 : IVec S32 1 := cmpf .olt main_v250 main_v251
  let main_v253 : FVec F S512x32 .f32 := Host.absf main_arg6
  let main_cst_75 : FVec F S_ .f32 := constant S_ .f32 0x7F800000#32
  let main_v254 : FVec F S512x32 .f32 := broadcastInDim S512x32 ![] bcast_S_S512x32 main_cst_75
  let main_v255 : IVec S512x32 1 := cmpf .olt main_v253 main_v254
  let main_v256 : IVec S65536x512 1 := noti main_v226
  let main_v257 : IVec S65536x512 1 := ori main_v256 main_v237
  (main_v240, main_v243, main_v246, main_v249, main_v252, main_v255, main_v257)

def fn_part12 {F : FTy → Type} [FloatOps F] (main_arg0 : FVec F S65536x128 .f32) (main_arg2 : FVec F S128x128 .f32) (main_arg3 : FVec F S128 .f32) (main_arg4 : FVec F S32x128 .f32) (main_arg5 : FVec F S32 .f32) (main_arg6 : FVec F S512x32 .f32) (main_v33 : FVec F S65536x512 .f32) (main_v219 : FVec F S65536x512 .f32) : IVec S65536x128 1 × IVec S128x128 1 × IVec S128 1 × IVec S32x128 1 × IVec S32 1 × IVec S512x32 1 × IVec S65536x512 1 :=
  let main_v220 : FVec F S65536x512 .f32 := Host.log main_v219
  let main_v221 : FVec F S65536x512 .f32 := Host.negf main_v220
  let main_v222 : FVec F S65536x512 .f32 := addf main_v221 main_v33
  let main_cst_66 : FVec F S_ .f32 := constant S_ .f32 0xFF800000#32
  let main_v223 : FVec F S65536 .f32 := (fun x v => Host.reduce FloatOps.maximumf x v reducesTo_S65536x512_S65536_d1 h_S_) main_v222 main_cst_66
  let main_v224 : FVec F S65536x1 .f32 := broadcastInDim S65536x1 ![0] bcast_S65536_S65536x1_0 main_v223
  let main_v225 : FVec F S65536x512 .f32 := broadcastInDim S65536x512 ![0, 1] bcast_S65536x1_S65536x512_0_1 main_v224
  let main_v226 : IVec S65536x512 1 := cmpf .oeq main_v222 main_v225
  let main_v227 : IVec S65536x512 32 := iotaInDim S65536x512 32 1
  let main_cst_67 : FVec F S_ .f32 := constant S_ .f32 0xFF800000#32
  let main_v228 : FVec F S65536 .f32 := (fun x v => Host.reduce FloatOps.maximumf x v reducesTo_S65536x512_S65536_d1 h_S_) main_v222 main_cst_67
  let main_v229 : FVec F S65536x1 .f32 := broadcastInDim S65536x1 ![0] bcast_S65536_S65536x1_0 main_v228
  let main_v230 : FVec F S65536x512 .f32 := broadcastInDim S65536x512 ![0, 1] bcast_S65536x1_S65536x512_0_1 main_v229
  let main_v231 : IVec S65536x512 1 := cmpf .oeq main_v222 main_v230
  let main_v232 : IVec S65536x512 32 := iotaInDim S65536x512 32 1
  let main_c_68 : IVec S_ 32 := constantI S_ 32 512#32
  let main_v233 : IVec S65536x512 32 := fn_where (F := F) main_v231 main_v232 main_c_68
  let main_c_69 : IVec S_ 32 := constantI S_ 32 2147483647#32
  let main_v234 : IVec S65536 32 := (fun x v => Host.reduce IntOp.minsi x v reducesTo_S65536x512_S65536_d1 h_S_) main_v233 main_c_69
  let main_v235 : IVec S65536x1 32 := broadcastInDim S65536x1 ![0] bcast_S65536_S65536x1_0 main_v234
  let main_v236 : IVec S65536x512 32 := broadcastInDim S65536x512 ![0, 1] bcast_S65536x1_S65536x512_0_1 main_v235
  let main_v237 : IVec S65536x512 1 := cmpi .eq main_v227 main_v236
  let main_v238 : FVec F S65536x128 .f32 := Host.absf main_arg0
  let main_cst_70 : FVec F S_ .f32 := constant S_ .f32 0x7F800000#32
  fn_part13 (F := F) main_arg2 main_arg3 main_arg4 main_arg5 main_arg6 main_v226 main_v237 main_v238 main_cst_70

def fn_part11 {F : FTy → Type} [FloatOps F] (main_arg0 : FVec F S65536x128 .f32) (main_arg2 : FVec F S128x128 .f32) (main_arg3 : FVec F S128 .f32) (main_arg4 : FVec F S32x128 .f32) (main_arg5 : FVec F S32 .f32) (main_arg6 : FVec F S512x32 .f32) (main_v33 : FVec F S65536x512 .f32) (main_v199 : IVec S65536x512 32) (main_v201 : IVec S65536x512 32) (main_c_59 : IVec S_ 32) : IVec S65536x128 1 × IVec S128x128 1 × IVec S128 1 × IVec S32x128 1 × IVec S32 1 × IVec S512x32 1 × IVec S65536x512 1 :=
  let main_v202 : IVec S65536x512 32 := broadcastInDim S65536x512 ![] bcast_S_S65536x512 main_c_59
  let main_v203 : IVec S65536x512 32 := addi main_v199 main_v202
  let main_v204 : IVec S65536x512 32 := xori main_v201 main_v203
  let main_c_60 : IVec S_ 32 := constantI S_ 32 9#32
  let main_v205 : IVec S65536x512 32 := broadcastInDim S65536x512 ![] bcast_S_S65536x512 main_c_60
  let main_v206 : IVec S65536x512 32 := Host.shrui main_v204 main_v205
  let main_c_61 : IVec S_ 32 := constantI S_ 32 1065353216#32
  let main_v207 : IVec S65536x512 32 := broadcastInDim S65536x512 ![] bcast_S_S65536x512 main_c_61
  let main_v208 : IVec S65536x512 32 := ori main_v206 main_v207
  let main_v209 : FVec F S65536x512 .f32 := bitcastToFloat .f32 main_v208
  let main_cst_62 : FVec F S_ .f32 := constant S_ .f32 0x3F800000#32
  let main_v210 : FVec F S65536x512 .f32 := broadcastInDim S65536x512 ![] bcast_S_S65536x512 main_cst_62
  let main_v211 : FVec F S65536x512 .f32 := subf main_v209 main_v210
  let main_cst_63 : FVec F S_ .f32 := constant S_ .f32 0x3F800000#32
  let main_v212 : FVec F S65536x512 .f32 := broadcastInDim S65536x512 ![] bcast_S_S65536x512 main_cst_63
  let main_v213 : FVec F S65536x512 .f32 := mulf main_v211 main_v212
  let main_cst_64 : FVec F S_ .f32 := constant S_ .f32 0x00800000#32
  let main_v214 : FVec F S65536x512 .f32 := broadcastInDim S65536x512 ![] bcast_S_S65536x512 main_cst_64
  let main_v215 : FVec F S65536x512 .f32 := addf main_v213 main_v214
  let main_cst_65 : FVec F S_ .f32 := constant S_ .f32 0x00800000#32
  let main_v216 : FVec F S65536x512 .f32 := broadcastInDim S65536x512 ![] bcast_S_S65536x512 main_cst_65
  let main_v217 : FVec F S65536x512 .f32 := maximumf main_v216 main_v215
  let main_v218 : FVec F S65536x512 .f32 := Host.log main_v217
  let main_v219 : FVec F S65536x512 .f32 := Host.negf main_v218
  fn_part12 (F := F) main_arg0 main_arg2 main_arg3 main_arg4 main_arg5 main_arg6 main_v33 main_v219

def fn_part10 {F : FTy → Type} [FloatOps F] (main_arg0 : FVec F S65536x128 .f32) (main_arg2 : FVec F S128x128 .f32) (main_arg3 : FVec F S128 .f32) (main_arg4 : FVec F S32x128 .f32) (main_arg5 : FVec F S32 .f32) (main_arg6 : FVec F S512x32 .f32) (main_v33 : FVec F S65536x512 .f32) (main_v179 : IVec S65536x512 32) (main_v181 : IVec S65536x512 32) (main_v183 : IVec S65536x512 32) : IVec S65536x128 1 × IVec S128x128 1 × IVec S128 1 × IVec S32x128 1 × IVec S32 1 × IVec S512x32 1 × IVec S65536x512 1 :=
  let main_v184 : IVec S65536x512 32 := ori main_v181 main_v183
  let main_v185 : IVec S65536x512 32 := xori main_v179 main_v184
  let main_v186 : IVec S65536x512 32 := addi main_v179 main_v185
  let main_c_54 : IVec S_ 32 := constantI S_ 32 26#32
  let main_v187 : IVec S65536x512 32 := broadcastInDim S65536x512 ![] bcast_S_S65536x512 main_c_54
  let main_v188 : IVec S65536x512 32 := Host.shli main_v185 main_v187
  let main_c_55 : IVec S_ 32 := constantI S_ 32 6#32
  let main_v189 : IVec S65536x512 32 := broadcastInDim S65536x512 ![] bcast_S_S65536x512 main_c_55
  let main_v190 : IVec S65536x512 32 := Host.shrui main_v185 main_v189
  let main_v191 : IVec S65536x512 32 := ori main_v188 main_v190
  let main_v192 : IVec S65536x512 32 := xori main_v186 main_v191
  let main_v193 : IVec S65536x512 32 := addi main_v186 main_v192
  let main_c_56 : IVec S_ 32 := constantI S_ 32 6#32
  let main_v194 : IVec S65536x512 32 := broadcastInDim S65536x512 ![] bcast_S_S65536x512 main_c_56
  let main_v195 : IVec S65536x512 32 := Host.shli main_v192 main_v194
  let main_c_57 : IVec S_ 32 := constantI S_ 32 26#32
  let main_v196 : IVec S65536x512 32 := broadcastInDim S65536x512 ![] bcast_S_S65536x512 main_c_57
  let main_v197 : IVec S65536x512 32 := Host.shrui main_v192 main_v196
  let main_v198 : IVec S65536x512 32 := ori main_v195 main_v197
  let main_v199 : IVec S65536x512 32 := xori main_v193 main_v198
  let main_c_58 : IVec S_ 32 := constantI S_ 32 466689008#32
  let main_v200 : IVec S65536x512 32 := broadcastInDim S65536x512 ![] bcast_S_S65536x512 main_c_58
  let main_v201 : IVec S65536x512 32 := addi main_v193 main_v200
  let main_c_59 : IVec S_ 32 := constantI S_ 32 5#32
  fn_part11 (F := F) main_arg0 main_arg2 main_arg3 main_arg4 main_arg5 main_arg6 main_v33 main_v199 main_v201 main_c_59

def fn_part9 {F : FTy → Type} [FloatOps F] (main_arg0 : FVec F S65536x128 .f32) (main_arg2 : FVec F S128x128 .f32) (main_arg3 : FVec F S128 .f32) (main_arg4 : FVec F S32x128 .f32) (main_arg5 : FVec F S32 .f32) (main_arg6 : FVec F S512x32 .f32) (main_v33 : FVec F S65536x512 .f32) (main_v161 : IVec S65536x512 32) (main_v163 : IVec S65536x512 32) (main_v165 : IVec S65536x512 32) : IVec S65536x128 1 × IVec S128x128 1 × IVec S128 1 × IVec S32x128 1 × IVec S32 1 × IVec S512x32 1 × IVec S65536x512 1 :=
  let main_v166 : IVec S65536x512 32 := ori main_v163 main_v165
  let main_v167 : IVec S65536x512 32 := xori main_v161 main_v166
  let main_c_48 : IVec S_ 32 := constantI S_ 32 42#32
  let main_v168 : IVec S65536x512 32 := broadcastInDim S65536x512 ![] bcast_S_S65536x512 main_c_48
  let main_v169 : IVec S65536x512 32 := addi main_v161 main_v168
  let main_c_49 : IVec S_ 32 := constantI S_ 32 466689012#32
  let main_v170 : IVec S65536x512 32 := broadcastInDim S65536x512 ![] bcast_S_S65536x512 main_c_49
  let main_v171 : IVec S65536x512 32 := addi main_v167 main_v170
  let main_v172 : IVec S65536x512 32 := addi main_v169 main_v171
  let main_c_50 : IVec S_ 32 := constantI S_ 32 13#32
  let main_v173 : IVec S65536x512 32 := broadcastInDim S65536x512 ![] bcast_S_S65536x512 main_c_50
  let main_v174 : IVec S65536x512 32 := Host.shli main_v171 main_v173
  let main_c_51 : IVec S_ 32 := constantI S_ 32 19#32
  let main_v175 : IVec S65536x512 32 := broadcastInDim S65536x512 ![] bcast_S_S65536x512 main_c_51
  let main_v176 : IVec S65536x512 32 := Host.shrui main_v171 main_v175
  let main_v177 : IVec S65536x512 32 := ori main_v174 main_v176
  let main_v178 : IVec S65536x512 32 := xori main_v172 main_v177
  let main_v179 : IVec S65536x512 32 := addi main_v172 main_v178
  let main_c_52 : IVec S_ 32 := constantI S_ 32 15#32
  let main_v180 : IVec S65536x512 32 := broadcastInDim S65536x512 ![] bcast_S_S65536x512 main_c_52
  let main_v181 : IVec S65536x512 32 := Host.shli main_v178 main_v180
  let main_c_53 : IVec S_ 32 := constantI S_ 32 17#32
  let main_v182 : IVec S65536x512 32 := broadcastInDim S65536x512 ![] bcast_S_S65536x512 main_c_53
  let main_v183 : IVec S65536x512 32 := Host.shrui main_v178 main_v182
  fn_part10 (F := F) main_arg0 main_arg2 main_arg3 main_arg4 main_arg5 main_arg6 main_v33 main_v179 main_v181 main_v183

def fn_part8 {F : FTy → Type} [FloatOps F] (main_arg0 : FVec F S65536x128 .f32) (main_arg2 : FVec F S128x128 .f32) (main_arg3 : FVec F S128 .f32) (main_arg4 : FVec F S32x128 .f32) (main_arg5 : FVec F S32 .f32) (main_arg6 : FVec F S512x32 .f32) (main_v33 : FVec F S65536x512 .f32) (main_v146 : IVec S65536x512 32) (main_v147 : IVec S65536x512 32) : IVec S65536x128 1 × IVec S128x128 1 × IVec S128 1 × IVec S32x128 1 × IVec S32 1 × IVec S512x32 1 × IVec S65536x512 1 :=
  let main_c_42 : IVec S_ 32 := constantI S_ 32 29#32
  let main_v148 : IVec S65536x512 32 := broadcastInDim S65536x512 ![] bcast_S_S65536x512 main_c_42
  let main_v149 : IVec S65536x512 32 := Host.shli main_v146 main_v148
  let main_c_43 : IVec S_ 32 := constantI S_ 32 3#32
  let main_v150 : IVec S65536x512 32 := broadcastInDim S65536x512 ![] bcast_S_S65536x512 main_c_43
  let main_v151 : IVec S65536x512 32 := Host.shrui main_v146 main_v150
  let main_v152 : IVec S65536x512 32 := ori main_v149 main_v151
  let main_v153 : IVec S65536x512 32 := xori main_v147 main_v152
  let main_v154 : IVec S65536x512 32 := addi main_v147 main_v153
  let main_c_44 : IVec S_ 32 := constantI S_ 32 16#32
  let main_v155 : IVec S65536x512 32 := broadcastInDim S65536x512 ![] bcast_S_S65536x512 main_c_44
  let main_v156 : IVec S65536x512 32 := Host.shli main_v153 main_v155
  let main_c_45 : IVec S_ 32 := constantI S_ 32 16#32
  let main_v157 : IVec S65536x512 32 := broadcastInDim S65536x512 ![] bcast_S_S65536x512 main_c_45
  let main_v158 : IVec S65536x512 32 := Host.shrui main_v153 main_v157
  let main_v159 : IVec S65536x512 32 := ori main_v156 main_v158
  let main_v160 : IVec S65536x512 32 := xori main_v154 main_v159
  let main_v161 : IVec S65536x512 32 := addi main_v154 main_v160
  let main_c_46 : IVec S_ 32 := constantI S_ 32 24#32
  let main_v162 : IVec S65536x512 32 := broadcastInDim S65536x512 ![] bcast_S_S65536x512 main_c_46
  let main_v163 : IVec S65536x512 32 := Host.shli main_v160 main_v162
  let main_c_47 : IVec S_ 32 := constantI S_ 32 8#32
  let main_v164 : IVec S65536x512 32 := broadcastInDim S65536x512 ![] bcast_S_S65536x512 main_c_47
  let main_v165 : IVec S65536x512 32 := Host.shrui main_v160 main_v164
  fn_part9 (F := F) main_arg0 main_arg2 main_arg3 main_arg4 main_arg5 main_arg6 main_v33 main_v161 main_v163 main_v165

def fn_part7 {F : FTy → Type} [FloatOps F] (main_arg0 : FVec F S65536x128 .f32) (main_arg2 : FVec F S128x128 .f32) (main_arg3 : FVec F S128 .f32) (main_arg4 : FVec F S32x128 .f32) (main_arg5 : FVec F S32 .f32) (main_arg6 : FVec F S512x32 .f32) (main_v33 : FVec F S65536x512 .f32) (main_v128 : IVec S65536x512 32) (main_v129 : IVec S65536x512 32) : IVec S65536x128 1 × IVec S128x128 1 × IVec S128 1 × IVec S32x128 1 × IVec S32 1 × IVec S512x32 1 × IVec S65536x512 1 :=
  let main_c_36 : IVec S_ 32 := constantI S_ 32 6#32
  let main_v130 : IVec S65536x512 32 := broadcastInDim S65536x512 ![] bcast_S_S65536x512 main_c_36
  let main_v131 : IVec S65536x512 32 := Host.shli main_v128 main_v130
  let main_c_37 : IVec S_ 32 := constantI S_ 32 26#32
  let main_v132 : IVec S65536x512 32 := broadcastInDim S65536x512 ![] bcast_S_S65536x512 main_c_37
  let main_v133 : IVec S65536x512 32 := Host.shrui main_v128 main_v132
  let main_v134 : IVec S65536x512 32 := ori main_v131 main_v133
  let main_v135 : IVec S65536x512 32 := xori main_v129 main_v134
  let main_c_38 : IVec S_ 32 := constantI S_ 32 0#32
  let main_v136 : IVec S65536x512 32 := broadcastInDim S65536x512 ![] bcast_S_S65536x512 main_c_38
  let main_v137 : IVec S65536x512 32 := addi main_v129 main_v136
  let main_c_39 : IVec S_ 32 := constantI S_ 32 45#32
  let main_v138 : IVec S65536x512 32 := broadcastInDim S65536x512 ![] bcast_S_S65536x512 main_c_39
  let main_v139 : IVec S65536x512 32 := addi main_v135 main_v138
  let main_v140 : IVec S65536x512 32 := addi main_v137 main_v139
  let main_c_40 : IVec S_ 32 := constantI S_ 32 17#32
  let main_v141 : IVec S65536x512 32 := broadcastInDim S65536x512 ![] bcast_S_S65536x512 main_c_40
  let main_v142 : IVec S65536x512 32 := Host.shli main_v139 main_v141
  let main_c_41 : IVec S_ 32 := constantI S_ 32 15#32
  let main_v143 : IVec S65536x512 32 := broadcastInDim S65536x512 ![] bcast_S_S65536x512 main_c_41
  let main_v144 : IVec S65536x512 32 := Host.shrui main_v139 main_v143
  let main_v145 : IVec S65536x512 32 := ori main_v142 main_v144
  let main_v146 : IVec S65536x512 32 := xori main_v140 main_v145
  let main_v147 : IVec S65536x512 32 := addi main_v140 main_v146
  fn_part8 (F := F) main_arg0 main_arg2 main_arg3 main_arg4 main_arg5 main_arg6 main_v33 main_v146 main_v147

def fn_part6 {F : FTy → Type} [FloatOps F] (main_arg0 : FVec F S65536x128 .f32) (main_arg2 : FVec F S128x128 .f32) (main_arg3 : FVec F S128 .f32) (main_arg4 : FVec F S32x128 .f32) (main_arg5 : FVec F S32 .f32) (main_arg6 : FVec F S512x32 .f32) (main_v33 : FVec F S65536x512 .f32) (main_v107 : IVec S65536x512 32) (main_v108 : IVec S65536x512 32) (main_v110 : IVec S65536x512 32) : IVec S65536x128 1 × IVec S128x128 1 × IVec S128 1 × IVec S32x128 1 × IVec S32 1 × IVec S512x32 1 × IVec S65536x512 1 :=
  let main_c_31 : IVec S_ 32 := constantI S_ 32 19#32
  let main_v111 : IVec S65536x512 32 := broadcastInDim S65536x512 ![] bcast_S_S65536x512 main_c_31
  let main_v112 : IVec S65536x512 32 := Host.shrui main_v107 main_v111
  let main_v113 : IVec S65536x512 32 := ori main_v110 main_v112
  let main_v114 : IVec S65536x512 32 := xori main_v108 main_v113
  let main_v115 : IVec S65536x512 32 := addi main_v108 main_v114
  let main_c_32 : IVec S_ 32 := constantI S_ 32 15#32
  let main_v116 : IVec S65536x512 32 := broadcastInDim S65536x512 ![] bcast_S_S65536x512 main_c_32
  let main_v117 : IVec S65536x512 32 := Host.shli main_v114 main_v116
  let main_c_33 : IVec S_ 32 := constantI S_ 32 17#32
  let main_v118 : IVec S65536x512 32 := broadcastInDim S65536x512 ![] bcast_S_S65536x512 main_c_33
  let main_v119 : IVec S65536x512 32 := Host.shrui main_v114 main_v118
  let main_v120 : IVec S65536x512 32 := ori main_v117 main_v119
  let main_v121 : IVec S65536x512 32 := xori main_v115 main_v120
  let main_v122 : IVec S65536x512 32 := addi main_v115 main_v121
  let main_c_34 : IVec S_ 32 := constantI S_ 32 26#32
  let main_v123 : IVec S65536x512 32 := broadcastInDim S65536x512 ![] bcast_S_S65536x512 main_c_34
  let main_v124 : IVec S65536x512 32 := Host.shli main_v121 main_v123
  let main_c_35 : IVec S_ 32 := constantI S_ 32 6#32
  let main_v125 : IVec S65536x512 32 := broadcastInDim S65536x512 ![] bcast_S_S65536x512 main_c_35
  let main_v126 : IVec S65536x512 32 := Host.shrui main_v121 main_v125
  let main_v127 : IVec S65536x512 32 := ori main_v124 main_v126
  let main_v128 : IVec S65536x512 32 := xori main_v122 main_v127
  let main_v129 : IVec S65536x512 32 := addi main_v122 main_v128
  fn_part7 (F := F) main_arg0 main_arg2 main_arg3 main_arg4 main_arg5 main_arg6 main_v33 main_v128 main_v129

def fn_part5 {F : FTy → Type} [FloatOps F] (main_arg0 : FVec F S65536x128 .f32) (main_arg2 : FVec F S128x128 .f32) (main_arg3 : FVec F S128 .f32) (main_arg4 : FVec F S32x128 .f32) (main_arg5 : FVec F S32 .f32) (main_arg6 : FVec F S512x32 .f32) (main_v33 : FVec F S65536x512 .f32) (main_v89 : IVec S65536x512 32) (main_v90 : IVec S65536x512 32) (main_v92 : IVec S65536x512 32) : IVec S65536x128 1 × IVec S128x128 1 × IVec S128 1 × IVec S32x128 1 × IVec S32 1 × IVec S512x32 1 × IVec S65536x512 1 :=
  let main_c_25 : IVec S_ 32 := constantI S_ 32 16#32
  let main_v93 : IVec S65536x512 32 := broadcastInDim S65536x512 ![] bcast_S_S65536x512 main_c_25
  let main_v94 : IVec S65536x512 32 := Host.shrui main_v89 main_v93
  let main_v95 : IVec S65536x512 32 := ori main_v92 main_v94
  let main_v96 : IVec S65536x512 32 := xori main_v90 main_v95
  let main_v97 : IVec S65536x512 32 := addi main_v90 main_v96
  let main_c_26 : IVec S_ 32 := constantI S_ 32 24#32
  let main_v98 : IVec S65536x512 32 := broadcastInDim S65536x512 ![] bcast_S_S65536x512 main_c_26
  let main_v99 : IVec S65536x512 32 := Host.shli main_v96 main_v98
  let main_c_27 : IVec S_ 32 := constantI S_ 32 8#32
  let main_v100 : IVec S65536x512 32 := broadcastInDim S65536x512 ![] bcast_S_S65536x512 main_c_27
  let main_v101 : IVec S65536x512 32 := Host.shrui main_v96 main_v100
  let main_v102 : IVec S65536x512 32 := ori main_v99 main_v101
  let main_v103 : IVec S65536x512 32 := xori main_v97 main_v102
  let main_c_28 : IVec S_ 32 := constantI S_ 32 466689008#32
  let main_v104 : IVec S65536x512 32 := broadcastInDim S65536x512 ![] bcast_S_S65536x512 main_c_28
  let main_v105 : IVec S65536x512 32 := addi main_v97 main_v104
  let main_c_29 : IVec S_ 32 := constantI S_ 32 2#32
  let main_v106 : IVec S65536x512 32 := broadcastInDim S65536x512 ![] bcast_S_S65536x512 main_c_29
  let main_v107 : IVec S65536x512 32 := addi main_v103 main_v106
  let main_v108 : IVec S65536x512 32 := addi main_v105 main_v107
  let main_c_30 : IVec S_ 32 := constantI S_ 32 13#32
  let main_v109 : IVec S65536x512 32 := broadcastInDim S65536x512 ![] bcast_S_S65536x512 main_c_30
  let main_v110 : IVec S65536x512 32 := Host.shli main_v107 main_v109
  fn_part6 (F := F) main_arg0 main_arg2 main_arg3 main_arg4 main_arg5 main_arg6 main_v33 main_v107 main_v108 main_v110

def fn_part4 {F : FTy → Type} [FloatOps F] (main_arg0 : FVec F S65536x128 .f32) (main_arg2 : FVec F S128x128 .f32) (main_arg3 : FVec F S128 .f32) (main_arg4 : FVec F S32x128 .f32) (main_arg5 : FVec F S32 .f32) (main_arg6 : FVec F S512x32 .f32) (main_v33 : FVec F S65536x512 .f32) (main_v71 : IVec S65536x512 32) (main_v73 : IVec S65536x512 32) (main_c_19 : IVec S_ 32) : IVec S65536x128 1 × IVec S128x128 1 × IVec S128 1 × IVec S32x128 1 × IVec S32 1 × IVec S512x32 1 × IVec S65536x512 1 :=
  let main_v74 : IVec S65536x512 32 := broadcastInDim S65536x512 ![] bcast_S_S65536x512 main_c_19
  let main_v75 : IVec S65536x512 32 := addi main_v71 main_v74
  let main_v76 : IVec S65536x512 32 := addi main_v73 main_v75
  let main_c_20 : IVec S_ 32 := constantI S_ 32 17#32
  let main_v77 : IVec S65536x512 32 := broadcastInDim S65536x512 ![] bcast_S_S65536x512 main_c_20
  let main_v78 : IVec S65536x512 32 := Host.shli main_v75 main_v77
  let main_c_21 : IVec S_ 32 := constantI S_ 32 15#32
  let main_v79 : IVec S65536x512 32 := broadcastInDim S65536x512 ![] bcast_S_S65536x512 main_c_21
  let main_v80 : IVec S65536x512 32 := Host.shrui main_v75 main_v79
  let main_v81 : IVec S65536x512 32 := ori main_v78 main_v80
  let main_v82 : IVec S65536x512 32 := xori main_v76 main_v81
  let main_v83 : IVec S65536x512 32 := addi main_v76 main_v82
  let main_c_22 : IVec S_ 32 := constantI S_ 32 29#32
  let main_v84 : IVec S65536x512 32 := broadcastInDim S65536x512 ![] bcast_S_S65536x512 main_c_22
  let main_v85 : IVec S65536x512 32 := Host.shli main_v82 main_v84
  let main_c_23 : IVec S_ 32 := constantI S_ 32 3#32
  let main_v86 : IVec S65536x512 32 := broadcastInDim S65536x512 ![] bcast_S_S65536x512 main_c_23
  let main_v87 : IVec S65536x512 32 := Host.shrui main_v82 main_v86
  let main_v88 : IVec S65536x512 32 := ori main_v85 main_v87
  let main_v89 : IVec S65536x512 32 := xori main_v83 main_v88
  let main_v90 : IVec S65536x512 32 := addi main_v83 main_v89
  let main_c_24 : IVec S_ 32 := constantI S_ 32 16#32
  let main_v91 : IVec S65536x512 32 := broadcastInDim S65536x512 ![] bcast_S_S65536x512 main_c_24
  let main_v92 : IVec S65536x512 32 := Host.shli main_v89 main_v91
  fn_part5 (F := F) main_arg0 main_arg2 main_arg3 main_arg4 main_arg5 main_arg6 main_v33 main_v89 main_v90 main_v92

def fn_part3 {F : FTy → Type} [FloatOps F] (main_arg0 : FVec F S65536x128 .f32) (main_arg2 : FVec F S128x128 .f32) (main_arg3 : FVec F S128 .f32) (main_arg4 : FVec F S32x128 .f32) (main_arg5 : FVec F S32 .f32) (main_arg6 : FVec F S512x32 .f32) (main_v33 : FVec F S65536x512 .f32) (main_v51 : IVec S65536x512 32) (main_v53 : IVec S65536x512 32) (main_v55 : IVec S65536x512 32) : IVec S65536x128 1 × IVec S128x128 1 × IVec S128 1 × IVec S32x128 1 × IVec S32 1 × IVec S512x32 1 × IVec S65536x512 1 :=
  let main_v56 : IVec S65536x512 32 := ori main_v53 main_v55
  let main_v57 : IVec S65536x512 32 := xori main_v51 main_v56
  let main_v58 : IVec S65536x512 32 := addi main_v51 main_v57
  let main_c_14 : IVec S_ 32 := constantI S_ 32 26#32
  let main_v59 : IVec S65536x512 32 := broadcastInDim S65536x512 ![] bcast_S_S65536x512 main_c_14
  let main_v60 : IVec S65536x512 32 := Host.shli main_v57 main_v59
  let main_c_15 : IVec S_ 32 := constantI S_ 32 6#32
  let main_v61 : IVec S65536x512 32 := broadcastInDim S65536x512 ![] bcast_S_S65536x512 main_c_15
  let main_v62 : IVec S65536x512 32 := Host.shrui main_v57 main_v61
  let main_v63 : IVec S65536x512 32 := ori main_v60 main_v62
  let main_v64 : IVec S65536x512 32 := xori main_v58 main_v63
  let main_v65 : IVec S65536x512 32 := addi main_v58 main_v64
  let main_c_16 : IVec S_ 32 := constantI S_ 32 6#32
  let main_v66 : IVec S65536x512 32 := broadcastInDim S65536x512 ![] bcast_S_S65536x512 main_c_16
  let main_v67 : IVec S65536x512 32 := Host.shli main_v64 main_v66
  let main_c_17 : IVec S_ 32 := constantI S_ 32 26#32
  let main_v68 : IVec S65536x512 32 := broadcastInDim S65536x512 ![] bcast_S_S65536x512 main_c_17
  let main_v69 : IVec S65536x512 32 := Host.shrui main_v64 main_v68
  let main_v70 : IVec S65536x512 32 := ori main_v67 main_v69
  let main_v71 : IVec S65536x512 32 := xori main_v65 main_v70
  let main_c_18 : IVec S_ 32 := constantI S_ 32 42#32
  let main_v72 : IVec S65536x512 32 := broadcastInDim S65536x512 ![] bcast_S_S65536x512 main_c_18
  let main_v73 : IVec S65536x512 32 := addi main_v65 main_v72
  let main_c_19 : IVec S_ 32 := constantI S_ 32 466689009#32
  fn_part4 (F := F) main_arg0 main_arg2 main_arg3 main_arg4 main_arg5 main_arg6 main_v33 main_v71 main_v73 main_c_19

def fn_part2 {F : FTy → Type} [FloatOps F] (main_arg0 : FVec F S65536x128 .f32) (main_arg2 : FVec F S128x128 .f32) (main_arg3 : FVec F S128 .f32) (main_arg4 : FVec F S32x128 .f32) (main_arg5 : FVec F S32 .f32) (main_arg6 : FVec F S512x32 .f32) (main_v33 : FVec F S65536x512 .f32) (main_v34 : IVec S65536x512 32) (main_v35 : IVec S65536x512 32) (main_v36 : IVec S65536x512 32) (main_v37 : IVec S65536x512 32) : IVec S65536x128 1 × IVec S128x128 1 × IVec S128 1 × IVec S32x128 1 × IVec S32 1 × IVec S512x32 1 × IVec S65536x512 1 :=
  let main_v38 : IVec S65536x512 32 := addi main_v36 main_v37
  let main_c_8 : IVec S_ 32 := constantI S_ 32 512#32
  let main_v39 : IVec S65536x512 32 := broadcastInDim S65536x512 ![] bcast_S_S65536x512 main_c_8
  let main_v40 : IVec S65536x512 32 := muli main_v34 main_v39
  let main_v41 : IVec S65536x512 32 := addi main_v40 main_v35
  let main_c_9 : IVec S_ 32 := constantI S_ 32 42#32
  let main_v42 : IVec S65536x512 32 := broadcastInDim S65536x512 ![] bcast_S_S65536x512 main_c_9
  let main_v43 : IVec S65536x512 32 := addi main_v41 main_v42
  let main_v44 : IVec S65536x512 32 := addi main_v38 main_v43
  let main_c_10 : IVec S_ 32 := constantI S_ 32 13#32
  let main_v45 : IVec S65536x512 32 := broadcastInDim S65536x512 ![] bcast_S_S65536x512 main_c_10
  let main_v46 : IVec S65536x512 32 := Host.shli main_v43 main_v45
  let main_c_11 : IVec S_ 32 := constantI S_ 32 19#32
  let main_v47 : IVec S65536x512 32 := broadcastInDim S65536x512 ![] bcast_S_S65536x512 main_c_11
  let main_v48 : IVec S65536x512 32 := Host.shrui main_v43 main_v47
  let main_v49 : IVec S65536x512 32 := ori main_v46 main_v48
  let main_v50 : IVec S65536x512 32 := xori main_v44 main_v49
  let main_v51 : IVec S65536x512 32 := addi main_v44 main_v50
  let main_c_12 : IVec S_ 32 := constantI S_ 32 15#32
  let main_v52 : IVec S65536x512 32 := broadcastInDim S65536x512 ![] bcast_S_S65536x512 main_c_12
  let main_v53 : IVec S65536x512 32 := Host.shli main_v50 main_v52
  let main_c_13 : IVec S_ 32 := constantI S_ 32 17#32
  let main_v54 : IVec S65536x512 32 := broadcastInDim S65536x512 ![] bcast_S_S65536x512 main_c_13
  let main_v55 : IVec S65536x512 32 := Host.shrui main_v50 main_v54
  fn_part3 (F := F) main_arg0 main_arg2 main_arg3 main_arg4 main_arg5 main_arg6 main_v33 main_v51 main_v53 main_v55

def fn_part1 {F : FTy → Type} [FloatOps F] (main_arg0 : FVec F S65536x128 .f32) (main_arg2 : FVec F S128x128 .f32) (main_arg3 : FVec F S128 .f32) (main_arg4 : FVec F S32x128 .f32) (main_arg5 : FVec F S32 .f32) (main_arg6 : FVec F S512x32 .f32) (main_v11 : FVec F S65536x32 .f32) (main_v20 : FVec F S65536x512 .f32) : IVec S65536x128 1 × IVec S128x128 1 × IVec S128 1 × IVec S32x128 1 × IVec S32 1 × IVec S512x32 1 × IVec S65536x512 1 :=
  let main_v21 : FVec F S32x512 .f32 := (transpose S32x512 [1, 0] · transposes_S512x32_S32x512_1_0) main_arg6
  let main_v22 : FVec F S65536x512 .f32 := (fun l r => Host.dotGeneral dot_S65536x32_S32x512_S65536x512_1_0_0_1_n_n none l r) main_v11 main_v21
  let main_cst_2 : FVec F S_ .f32 := constant S_ .f32 0x40000000#32
  let main_v23 : FVec F S65536x512 .f32 := broadcastInDim S65536x512 ![] bcast_S_S65536x512 main_cst_2
  let main_v24 : FVec F S65536x512 .f32 := mulf main_v23 main_v22
  let main_v25 : FVec F S65536x512 .f32 := subf main_v20 main_v24
  let main_v26 : FVec F S65536x512 .f32 := Host.negf main_v25
  let main_cst_3 : FVec F S_ .f32 := constant S_ .f32 0x3DCCCCCD#32
  let main_v27 : FVec F S65536x512 .f32 := broadcastInDim S65536x512 ![] bcast_S_S65536x512 main_cst_3
  let main_v28 : FVec F S65536x512 .f32 := Host.divf main_v26 main_v27
  let main_cst_4 : FVec F S_ .f32 := constant S_ .f32 0xFF800000#32
  let main_v29 : FVec F S65536 .f32 := (fun x v => Host.reduce FloatOps.maximumf x v reducesTo_S65536x512_S65536_d1 h_S_) main_v28 main_cst_4
  let main_v30 : FVec F S65536x1 .f32 := broadcastInDim S65536x1 ![0] bcast_S65536_S65536x1_0 main_v29
  let main_v31 : FVec F S65536x512 .f32 := broadcastInDim S65536x512 ![0, 1] bcast_S65536x1_S65536x512_0_1 main_v30
  let main_v32 : FVec F S65536x512 .f32 := subf main_v28 main_v31
  let main_cst_5 : FVec F S_ .f32 := constant S_ .f32 0xC47A0000#32
  let main_cst_6 : FVec F S_ .f32 := constant S_ .f32 0x41200000#32
  let main_v33 : FVec F S65536x512 .f32 := fn_clip (F := F) main_v32 main_cst_5 main_cst_6
  let main_v34 : IVec S65536x512 32 := iotaInDim S65536x512 32 0
  let main_v35 : IVec S65536x512 32 := iotaInDim S65536x512 32 1
  let main_c : IVec S_ 32 := constantI S_ 32 0#32
  let main_v36 : IVec S65536x512 32 := broadcastInDim S65536x512 ![] bcast_S_S65536x512 main_c
  let main_c_7 : IVec S_ 32 := constantI S_ 32 0#32
  let main_v37 : IVec S65536x512 32 := broadcastInDim S65536x512 ![] bcast_S_S65536x512 main_c_7
  fn_part2 (F := F) main_arg0 main_arg2 main_arg3 main_arg4 main_arg5 main_arg6 main_v33 main_v34 main_v35 main_v36 main_v37

def fn {F : FTy → Type} [FloatOps F] (main_arg0 : FVec F S65536x128 .f32) (main_arg1 : IVec S65536 1) (main_arg2 : FVec F S128x128 .f32) (main_arg3 : FVec F S128 .f32) (main_arg4 : FVec F S32x128 .f32) (main_arg5 : FVec F S32 .f32) (main_arg6 : FVec F S512x32 .f32) : IVec S65536x128 1 × IVec S128x128 1 × IVec S128 1 × IVec S32x128 1 × IVec S32 1 × IVec S512x32 1 × IVec S65536x512 1 :=
  let main_v0 : FVec F S128x128 .f32 := (transpose S128x128 [1, 0] · transposes_S128x128_S128x128_1_0) main_arg2
  let main_v1 : FVec F S65536x128 .f32 := (fun l r => Host.dotGeneral dot_S65536x128_S128x128_S65536x128_1_0_0_1_n_n none l r) main_arg0 main_v0
  let main_v2 : FVec F S1x128 .f32 := broadcastInDim S1x128 ![1] bcast_S128_S1x128_1 main_arg3
  let main_v3 : FVec F S65536x128 .f32 := broadcastInDim S65536x128 ![0, 1] bcast_S1x128_S65536x128_0_1 main_v2
  let main_v4 : FVec F S65536x128 .f32 := addf main_v1 main_v3
  let main_cst : FVec F S_ .f32 := constant S_ .f32 0x00000000#32
  let main_v5 : FVec F S65536x128 .f32 := broadcastInDim S65536x128 ![] bcast_S_S65536x128 main_cst
  let main_v6 : FVec F S65536x128 .f32 := maximumf main_v4 main_v5
  let main_v7 : FVec F S128x32 .f32 := (transpose S128x32 [1, 0] · transposes_S32x128_S128x32_1_0) main_arg4
  let main_v8 : FVec F S65536x32 .f32 := (fun l r => Host.dotGeneral dot_S65536x128_S128x32_S65536x32_1_0_0_1_n_n none l r) main_v6 main_v7
  let main_v9 : FVec F S1x32 .f32 := broadcastInDim S1x32 ![1] bcast_S32_S1x32_1 main_arg5
  let main_v10 : FVec F S65536x32 .f32 := broadcastInDim S65536x32 ![0, 1] bcast_S1x32_S65536x32_0_1 main_v9
  let main_v11 : FVec F S65536x32 .f32 := addf main_v8 main_v10
  let main_v12 : FVec F S65536x32 .f32 := mulf main_v11 main_v11
  let main_cst_0 : FVec F S_ .f32 := constant S_ .f32 0x00000000#32
  let main_v13 : FVec F S65536 .f32 := (fun x v => Host.reduceAdd x v reducesTo_S65536x32_S65536_d1 h_S_) main_v12 main_cst_0
  let main_v14 : FVec F S65536x1 .f32 := broadcastInDim S65536x1 ![0] bcast_S65536_S65536x1_0 main_v13
  let main_v15 : FVec F S512x32 .f32 := mulf main_arg6 main_arg6
  let main_cst_1 : FVec F S_ .f32 := constant S_ .f32 0x00000000#32
  let main_v16 : FVec F S512 .f32 := (fun x v => Host.reduceAdd x v reducesTo_S512x32_S512_d1 h_S_) main_v15 main_cst_1
  let main_v17 : FVec F S1x512 .f32 := broadcastInDim S1x512 ![1] bcast_S512_S1x512_1 main_v16
  let main_v18 : FVec F S65536x512 .f32 := broadcastInDim S65536x512 ![0, 1] bcast_S65536x1_S65536x512_0_1 main_v14
  let main_v19 : FVec F S65536x512 .f32 := broadcastInDim S65536x512 ![0, 1] bcast_S1x512_S65536x512_0_1 main_v17
  let main_v20 : FVec F S65536x512 .f32 := addf main_v18 main_v19
  fn_part1 (F := F) main_arg0 main_arg2 main_arg3 main_arg4 main_arg5 main_arg6 main_v11 main_v20
-- ==== Kernel.lean ====
abbrev S65536x128 : Shape := ⟨2, ![65536, 128]⟩
abbrev S65536 : Shape := ⟨1, ![65536]⟩
abbrev S128x128 : Shape := ⟨2, ![128, 128]⟩
abbrev S128 : Shape := ⟨1, ![128]⟩
abbrev S32x128 : Shape := ⟨2, ![32, 128]⟩
abbrev S32 : Shape := ⟨1, ![32]⟩
abbrev S512x32 : Shape := ⟨2, ![512, 32]⟩
abbrev S1x65536 : Shape := ⟨2, ![1, 65536]⟩
abbrev S32x512 : Shape := ⟨2, ![32, 512]⟩
abbrev S_ : Shape := ⟨0, ![]⟩
abbrev S1x128 : Shape := ⟨2, ![1, 128]⟩
abbrev S1x32 : Shape := ⟨2, ![1, 32]⟩
abbrev S33554432 : Shape := ⟨1, ![33554432]⟩
abbrev S65536x512 : Shape := ⟨2, ![65536, 512]⟩
abbrev S1x1 : Shape := ⟨2, ![1, 1]⟩
abbrev S65536x32 : Shape := ⟨2, ![65536, 32]⟩
abbrev S2048x128 : Shape := ⟨2, ![2048, 128]⟩
abbrev S1x2048 : Shape := ⟨2, ![1, 2048]⟩
abbrev S2048x512 : Shape := ⟨2, ![2048, 512]⟩
abbrev S2048x32 : Shape := ⟨2, ![2048, 32]⟩
abbrev S1x512 : Shape := ⟨2, ![1, 512]⟩
abbrev S2048 : Shape := ⟨1, ![2048]⟩
abbrev S2048x1 : Shape := ⟨2, ![2048, 1]⟩
abbrev S512 : Shape := ⟨1, ![512]⟩
abbrev S1x1x2048 : Shape := ⟨3, ![1, 1, 2048]⟩
abbrev S1 : Shape := ⟨1, ![1]⟩
abbrev S1x1x1 : Shape := ⟨3, ![1, 1, 1]⟩
abbrev S1x1x512 : Shape := ⟨3, ![1, 1, 512]⟩

abbrev nBuf : Space → Nat
  | .hbm => 255
  | .vmem => 23
  | .smem => 0
  | _ => 0

abbrev hbmTy0_0 (i : Nat) : BufTy := match i % 128 with
  | 0 => ⟨S65536x128, .f32⟩
  | 1 => ⟨S65536, .i1⟩
  | 2 => ⟨S128x128, .f32⟩
  | 3 => ⟨S128, .f32⟩
  | 4 => ⟨S32x128, .f32⟩
  | 5 => ⟨S32, .f32⟩
  | 6 => ⟨S512x32, .f32⟩
  | 7 => ⟨S65536, .f32⟩
  | 8 => ⟨S1x65536, .f32⟩
  | 9 => ⟨S32x512, .f32⟩
  | 10 => ⟨S_, .f32⟩
  | 11 => ⟨S32x512, .f32⟩
  | 12 => ⟨S32x512, .f32⟩
  | 13 => ⟨S1x128, .f32⟩
  | 14 => ⟨S1x32, .f32⟩
  | 15 => ⟨S33554432, .i32⟩
  | 16 => ⟨S_, .i32⟩
  | 17 => ⟨S33554432, .i32⟩
  | 18 => ⟨S33554432, .i32⟩
  | 19 => ⟨S_, .i32⟩
  | 20 => ⟨S33554432, .i32⟩
  | 21 => ⟨S33554432, .i32⟩
  | 22 => ⟨S_, .i32⟩
  | 23 => ⟨S33554432, .i32⟩
  | 24 => ⟨S33554432, .i32⟩
  | 25 => ⟨S_, .i32⟩
  | 26 => ⟨S33554432, .i32⟩
  | 27 => ⟨S33554432, .i32⟩
  | 28 => ⟨S33554432, .i32⟩
  | 29 => ⟨S33554432, .i32⟩
  | 30 => ⟨S33554432, .i32⟩
  | 31 => ⟨S_, .i32⟩
  | 32 => ⟨S33554432, .i32⟩
  | 33 => ⟨S33554432, .i32⟩
  | 34 => ⟨S_, .i32⟩
  | 35 => ⟨S33554432, .i32⟩
  | 36 => ⟨S33554432, .i32⟩
  | 37 => ⟨S33554432, .i32⟩
  | 38 => ⟨S33554432, .i32⟩
  | 39 => ⟨S33554432, .i32⟩
  | 40 => ⟨S_, .i32⟩
  | 41 => ⟨S33554432, .i32⟩
  | 42 => ⟨S33554432, .i32⟩
  | 43 => ⟨S_, .i32⟩
  | 44 => ⟨S33554432, .i32⟩
  | 45 => ⟨S33554432, .i32⟩
  | 46 => ⟨S33554432, .i32⟩
  | 47 => ⟨S33554432, .i32⟩
  | 48 => ⟨S33554432, .i32⟩
  | 49 => ⟨S_, .i32⟩
  | 50 => ⟨S33554432, .i32⟩
  | 51 => ⟨S33554432, .i32⟩
  | 52 => ⟨S_, .i32⟩
  | 53 => ⟨S33554432, .i32⟩
  | 54 => ⟨S33554432, .i32⟩
  | 55 => ⟨S33554432, .i32⟩
  | 56 => ⟨S33554432, .i32⟩
  | 57 => ⟨S_, .i32⟩
  | 58 => ⟨S33554432, .i32⟩
  | 59 => ⟨S33554432, .i32⟩
  | 60 => ⟨S_, .i32⟩
  | 61 => ⟨S33554432, .i32⟩
  | 62 => ⟨S33554432, .i32⟩
  | 63 => ⟨S33554432, .i32⟩
  | 64 => ⟨S_, .i32⟩
  | 65 => ⟨S33554432, .i32⟩
  | 66 => ⟨S33554432, .i32⟩
  | 67 => ⟨S_, .i32⟩
  | 68 => ⟨S33554432, .i32⟩
  | 69 => ⟨S33554432, .i32⟩
  | 70 => ⟨S33554432, .i32⟩
  | 71 => ⟨S33554432, .i32⟩
  | 72 => ⟨S33554432, .i32⟩
  | 73 => ⟨S_, .i32⟩
  | 74 => ⟨S33554432, .i32⟩
  | 75 => ⟨S33554432, .i32⟩
  | 76 => ⟨S_, .i32⟩
  | 77 => ⟨S33554432, .i32⟩
  | 78 => ⟨S33554432, .i32⟩
  | 79 => ⟨S33554432, .i32⟩
  | 80 => ⟨S33554432, .i32⟩
  | 81 => ⟨S33554432, .i32⟩
  | 82 => ⟨S_, .i32⟩
  | 83 => ⟨S33554432, .i32⟩
  | 84 => ⟨S33554432, .i32⟩
  | 85 => ⟨S_, .i32⟩
  | 86 => ⟨S33554432, .i32⟩
  | 87 => ⟨S33554432, .i32⟩
  | 88 => ⟨S33554432, .i32⟩
  | 89 => ⟨S33554432, .i32⟩
  | 90 => ⟨S33554432, .i32⟩
  | 91 => ⟨S_, .i32⟩
  | 92 => ⟨S33554432, .i32⟩
  | 93 => ⟨S33554432, .i32⟩
  | 94 => ⟨S_, .i32⟩
  | 95 => ⟨S33554432, .i32⟩
  | 96 => ⟨S33554432, .i32⟩
  | 97 => ⟨S33554432, .i32⟩
  | 98 => ⟨S33554432, .i32⟩
  | 99 => ⟨S_, .i32⟩
  | 100 => ⟨S33554432, .i32⟩
  | 101 => ⟨S33554432, .i32⟩
  | 102 => ⟨S_, .i32⟩
  | 103 => ⟨S33554432, .i32⟩
  | 104 => ⟨S33554432, .i32⟩
  | 105 => ⟨S33554432, .i32⟩
  | 106 => ⟨S_, .i32⟩
  | 107 => ⟨S33554432, .i32⟩
  | 108 => ⟨S33554432, .i32⟩
  | 109 => ⟨S_, .i32⟩
  | 110 => ⟨S33554432, .i32⟩
  | 111 => ⟨S33554432, .i32⟩
  | 112 => ⟨S33554432, .i32⟩
  | 113 => ⟨S33554432, .i32⟩
  | 114 => ⟨S33554432, .i32⟩
  | 115 => ⟨S_, .i32⟩
  | 116 => ⟨S33554432, .i32⟩
  | 117 => ⟨S33554432, .i32⟩
  | 118 => ⟨S_, .i32⟩
  | 119 => ⟨S33554432, .i32⟩
  | 120 => ⟨S33554432, .i32⟩
  | 121 => ⟨S33554432, .i32⟩
  | 122 => ⟨S33554432, .i32⟩
  | 123 => ⟨S33554432, .i32⟩
  | 124 => ⟨S_, .i32⟩
  | 125 => ⟨S33554432, .i32⟩
  | 126 => ⟨S33554432, .i32⟩
  | 127 => ⟨S_, .i32⟩
  | _ => ⟨S65536x128, .f32⟩

abbrev hbmTy0_1 (i : Nat) : BufTy := match i % 128 with
  | 0 => ⟨S33554432, .i32⟩
  | 1 => ⟨S33554432, .i32⟩
  | 2 => ⟨S33554432, .i32⟩
  | 3 => ⟨S33554432, .i32⟩
  | 4 => ⟨S33554432, .i32⟩
  | 5 => ⟨S_, .i32⟩
  | 6 => ⟨S33554432, .i32⟩
  | 7 => ⟨S33554432, .i32⟩
  | 8 => ⟨S_, .i32⟩
  | 9 => ⟨S33554432, .i32⟩
  | 10 => ⟨S33554432, .i32⟩
  | 11 => ⟨S33554432, .i32⟩
  | 12 => ⟨S33554432, .i32⟩
  | 13 => ⟨S_, .i32⟩
  | 14 => ⟨S33554432, .i32⟩
  | 15 => ⟨S33554432, .i32⟩
  | 16 => ⟨S_, .i32⟩
  | 17 => ⟨S33554432, .i32⟩
  | 18 => ⟨S33554432, .i32⟩
  | 19 => ⟨S33554432, .i32⟩
  | 20 => ⟨S_, .i32⟩
  | 21 => ⟨S33554432, .i32⟩
  | 22 => ⟨S33554432, .i32⟩
  | 23 => ⟨S_, .i32⟩
  | 24 => ⟨S33554432, .i32⟩
  | 25 => ⟨S33554432, .i32⟩
  | 26 => ⟨S33554432, .i32⟩
  | 27 => ⟨S33554432, .i32⟩
  | 28 => ⟨S33554432, .i32⟩
  | 29 => ⟨S_, .i32⟩
  | 30 => ⟨S33554432, .i32⟩
  | 31 => ⟨S33554432, .i32⟩
  | 32 => ⟨S_, .i32⟩
  | 33 => ⟨S33554432, .i32⟩
  | 34 => ⟨S33554432, .i32⟩
  | 35 => ⟨S33554432, .i32⟩
  | 36 => ⟨S33554432, .i32⟩
  | 37 => ⟨S33554432, .i32⟩
  | 38 => ⟨S_, .i32⟩
  | 39 => ⟨S33554432, .i32⟩
  | 40 => ⟨S33554432, .i32⟩
  | 41 => ⟨S_, .i32⟩
  | 42 => ⟨S33554432, .i32⟩
  | 43 => ⟨S33554432, .i32⟩
  | 44 => ⟨S33554432, .i32⟩
  | 45 => ⟨S33554432, .i32⟩
  | 46 => ⟨S33554432, .i32⟩
  | 47 => ⟨S_, .i32⟩
  | 48 => ⟨S33554432, .i32⟩
  | 49 => ⟨S33554432, .i32⟩
  | 50 => ⟨S_, .i32⟩
  | 51 => ⟨S33554432, .i32⟩
  | 52 => ⟨S33554432, .i32⟩
  | 53 => ⟨S33554432, .i32⟩
  | 54 => ⟨S33554432, .i32⟩
  | 55 => ⟨S_, .i32⟩
  | 56 => ⟨S33554432, .i32⟩
  | 57 => ⟨S33554432, .i32⟩
  | 58 => ⟨S_, .i32⟩
  | 59 => ⟨S33554432, .i32⟩
  | 60 => ⟨S33554432, .i32⟩
  | 61 => ⟨S33554432, .i32⟩
  | 62 => ⟨S_, .i32⟩
  | 63 => ⟨S33554432, .i32⟩
  | 64 => ⟨S33554432, .i32⟩
  | 65 => ⟨S_, .i32⟩
  | 66 => ⟨S33554432, .i32⟩
  | 67 => ⟨S33554432, .i32⟩
  | 68 => ⟨S33554432, .i32⟩
  | 69 => ⟨S33554432, .i32⟩
  | 70 => ⟨S33554432, .i32⟩
  | 71 => ⟨S_, .i32⟩
  | 72 => ⟨S33554432, .i32⟩
  | 73 => ⟨S33554432, .i32⟩
  | 74 => ⟨S_, .i32⟩
  | 75 => ⟨S33554432, .i32⟩
  | 76 => ⟨S33554432, .i32⟩
  | 77 => ⟨S33554432, .i32⟩
  | 78 => ⟨S33554432, .i32⟩
  | 79 => ⟨S33554432, .i32⟩
  | 80 => ⟨S_, .i32⟩
  | 81 => ⟨S33554432, .i32⟩
  | 82 => ⟨S33554432, .i32⟩
  | 83 => ⟨S_, .i32⟩
  | 84 => ⟨S33554432, .i32⟩
  | 85 => ⟨S33554432, .i32⟩
  | 86 => ⟨S33554432, .i32⟩
  | 87 => ⟨S33554432, .i32⟩
  | 88 => ⟨S33554432, .i32⟩
  | 89 => ⟨S_, .i32⟩
  | 90 => ⟨S33554432, .i32⟩
  | 91 => ⟨S33554432, .i32⟩
  | 92 => ⟨S_, .i32⟩
  | 93 => ⟨S33554432, .i32⟩
  | 94 => ⟨S33554432, .i32⟩
  | 95 => ⟨S33554432, .i32⟩
  | 96 => ⟨S33554432, .i32⟩
  | 97 => ⟨S_, .i32⟩
  | 98 => ⟨S33554432, .i32⟩
  | 99 => ⟨S33554432, .i32⟩
  | 100 => ⟨S_, .i32⟩
  | 101 => ⟨S33554432, .i32⟩
  | 102 => ⟨S33554432, .i32⟩
  | 103 => ⟨S33554432, .i32⟩
  | 104 => ⟨S_, .i32⟩
  | 105 => ⟨S33554432, .i32⟩
  | 106 => ⟨S33554432, .i32⟩
  | 107 => ⟨S_, .i32⟩
  | 108 => ⟨S33554432, .i32⟩
  | 109 => ⟨S33554432, .i32⟩
  | 110 => ⟨S33554432, .f32⟩
  | 111 => ⟨S_, .f32⟩
  | 112 => ⟨S33554432, .f32⟩
  | 113 => ⟨S33554432, .f32⟩
  | 114 => ⟨S_, .f32⟩
  | 115 => ⟨S33554432, .f32⟩
  | 116 => ⟨S33554432, .f32⟩
  | 117 => ⟨S33554432, .f32⟩
  | 118 => ⟨S33554432, .f32⟩
  | 119 => ⟨S33554432, .f32⟩
  | 120 => ⟨S33554432, .f32⟩
  | 121 => ⟨S65536x512, .f32⟩
  | 122 => ⟨S1x1, .f32⟩
  | 123 => ⟨S65536x32, .f32⟩
  | 124 => ⟨S1x1, .f32⟩
  | 125 => ⟨S65536x512, .f32⟩
  | 126 => ⟨S65536x512, .f32⟩
  | _ => ⟨S65536x128, .f32⟩

abbrev hbmTy (i : Nat) : BufTy := match i / 128 with
  | 0 => hbmTy0_0 i
  | 1 => hbmTy0_1 i
  | _ => ⟨S65536x128, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S1x2048, .f32⟩
  | .local _ .vmem, ⟨3, _⟩ => ⟨S1x2048, .f32⟩
  | .local _ .vmem, ⟨4, _⟩ => ⟨S2048x512, .f32⟩
  | .local _ .vmem, ⟨5, _⟩ => ⟨S2048x512, .f32⟩
  | .local _ .vmem, ⟨6, _⟩ => ⟨S128x128, .f32⟩
  | .local _ .vmem, ⟨7, _⟩ => ⟨S1x128, .f32⟩
  | .local _ .vmem, ⟨8, _⟩ => ⟨S32x128, .f32⟩
  | .local _ .vmem, ⟨9, _⟩ => ⟨S1x32, .f32⟩
  | .local _ .vmem, ⟨10, _⟩ => ⟨S512x32, .f32⟩
  | .local _ .vmem, ⟨11, _⟩ => ⟨S32x512, .f32⟩
  | .local _ .vmem, ⟨12, _⟩ => ⟨S1x1, .f32⟩
  | .local _ .vmem, ⟨13, _⟩ => ⟨S2048x32, .f32⟩
  | .local _ .vmem, ⟨14, _⟩ => ⟨S2048x32, .f32⟩
  | .local _ .vmem, ⟨15, _⟩ => ⟨S1x1, .f32⟩
  | .local _ .vmem, ⟨16, _⟩ => ⟨S2048x512, .f32⟩
  | .local _ .vmem, ⟨17, _⟩ => ⟨S2048x512, .f32⟩
  | .local _ .vmem, ⟨18, _⟩ => ⟨S2048x512, .f32⟩
  | .local _ .vmem, ⟨19, _⟩ => ⟨S2048x512, .f32⟩
  | .local _ .vmem, ⟨20, _⟩ => ⟨S1x1, .f32⟩
  | .local _ .vmem, ⟨21, _⟩ => ⟨S1x1, .f32⟩
  | .local _ .vmem, ⟨22, _⟩ => ⟨S1x512, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_c_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_9 : Ref sig .tc := ⟨.hbm, 57, rfl⟩
abbrev main_v39 : Ref sig .tc := ⟨.hbm, 58, rfl⟩
abbrev main_v40 : Ref sig .tc := ⟨.hbm, 59, rfl⟩
abbrev main_c_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_11 : Ref sig .tc := ⟨.hbm, 64, rfl⟩
abbrev main_v44 : Ref sig .tc := ⟨.hbm, 65, rfl⟩
abbrev main_v45 : Ref sig .tc := ⟨.hbm, 66, rfl⟩
abbrev main_c_12 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_13 : Ref sig .tc := ⟨.hbm, 73, rfl⟩
abbrev main_v51 : Ref sig .tc := ⟨.hbm, 74, rfl⟩
abbrev main_v52 : Ref sig .tc := ⟨.hbm, 75, rfl⟩
abbrev main_c_14 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_15 : Ref sig .tc := ⟨.hbm, 82, rfl⟩
abbrev main_v58 : Ref sig .tc := ⟨.hbm, 83, rfl⟩
abbrev main_v59 : Ref sig .tc := ⟨.hbm, 84, rfl⟩
abbrev main_c_16 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_17 : Ref sig .tc := ⟨.hbm, 91, rfl⟩
abbrev main_v65 : Ref sig .tc := ⟨.hbm, 92, rfl⟩
abbrev main_v66 : Ref sig .tc := ⟨.hbm, 93, rfl⟩
abbrev main_c_18 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_19 : Ref sig .tc := ⟨.hbm, 99, rfl⟩
abbrev main_v71 : Ref sig .tc := ⟨.hbm, 100, rfl⟩
abbrev main_v72 : Ref sig .tc := ⟨.hbm, 101, rfl⟩
abbrev main_c_20 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_c_21 : Ref sig .tc := ⟨.hbm, 106, rfl⟩
abbrev main_v76 : Ref sig .tc := ⟨.hbm, 107, rfl⟩
abbrev main_v77 : Ref sig .tc := ⟨.hbm, 108, rfl⟩
abbrev main_c_22 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_23 : Ref sig .tc := ⟨.hbm, 115, rfl⟩
abbrev main_v83 : Ref sig .tc := ⟨.hbm, 116, rfl⟩
abbrev main_v84 : Ref sig .tc := ⟨.hbm, 117, rfl⟩
abbrev main_c_24 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_c_25 : Ref sig .tc := ⟨.hbm, 124, rfl⟩
abbrev main_v90 : Ref sig .tc := ⟨.hbm, 125, rfl⟩
abbrev main_v91 : Ref sig .tc := ⟨.hbm, 126, rfl⟩
abbrev main_c_26 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_c_27 : Ref sig .tc := ⟨.hbm, 133, rfl⟩
abbrev main_v97 : Ref sig .tc := ⟨.hbm, 134, rfl⟩
abbrev main_v98 : Ref sig .tc := ⟨.hbm, 135, rfl⟩
abbrev main_c_28 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_29 : Ref sig .tc := ⟨.hbm, 141, rfl⟩
abbrev main_v103 : Ref sig .tc := ⟨.hbm, 142, rfl⟩
abbrev main_v104 : Ref sig .tc := ⟨.hbm, 143, rfl⟩
abbrev main_c_30 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_c_31 : Ref sig .tc := ⟨.hbm, 148, rfl⟩
abbrev main_v108 : Ref sig .tc := ⟨.hbm, 149, rfl⟩
abbrev main_v109 : Ref sig .tc := ⟨.hbm, 150, rfl⟩
abbrev main_c_32 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_c_33 : Ref sig .tc := ⟨.hbm, 157, rfl⟩
abbrev main_v115 : Ref sig .tc := ⟨.hbm, 158, rfl⟩
abbrev main_v116 : Ref sig .tc := ⟨.hbm, 159, rfl⟩
abbrev main_c_34 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_c_35 : Ref sig .tc := ⟨.hbm, 166, rfl⟩
abbrev main_v122 : Ref sig .tc := ⟨.hbm, 167, rfl⟩
abbrev main_v123 : Ref sig .tc := ⟨.hbm, 168, rfl⟩
abbrev main_c_36 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_c_37 : Ref sig .tc := ⟨.hbm, 175, rfl⟩
abbrev main_v129 : Ref sig .tc := ⟨.hbm, 176, rfl⟩
abbrev main_v130 : Ref sig .tc := ⟨.hbm, 177, rfl⟩
abbrev main_c_38 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_c_39 : Ref sig .tc := ⟨.hbm, 183, rfl⟩
abbrev main_v135 : Ref sig .tc := ⟨.hbm, 184, rfl⟩
abbrev main_v136 : Ref sig .tc := ⟨.hbm, 185, rfl⟩
abbrev main_c_40 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_c_41 : Ref sig .tc := ⟨.hbm, 190, rfl⟩
abbrev main_v140 : Ref sig .tc := ⟨.hbm, 191, rfl⟩
abbrev main_v141 : Ref sig .tc := ⟨.hbm, 192, rfl⟩
abbrev main_c_42 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_c_43 : Ref sig .tc := ⟨.hbm, 199, rfl⟩
abbrev main_v147 : Ref sig .tc := ⟨.hbm, 200, rfl⟩
abbrev main_v148 : Ref sig .tc := ⟨.hbm, 201, rfl⟩
abbrev main_c_44 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_c_45 : Ref sig .tc := ⟨.hbm, 208, rfl⟩
abbrev main_v154 : Ref sig .tc := ⟨.hbm, 209, rfl⟩
abbrev main_v155 : Ref sig .tc := ⟨.hbm, 210, rfl⟩
abbrev main_c_46 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_c_47 : Ref sig .tc := ⟨.hbm, 217, rfl⟩
abbrev main_v161 : Ref sig .tc := ⟨.hbm, 218, rfl⟩
abbrev main_v162 : Ref sig .tc := ⟨.hbm, 219, rfl⟩
abbrev main_c_48 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_c_49 : Ref sig .tc := ⟨.hbm, 225, rfl⟩
abbrev main_v167 : Ref sig .tc := ⟨.hbm, 226, rfl⟩
abbrev main_v168 : Ref sig .tc := ⟨.hbm, 227, rfl⟩
abbrev main_c_50 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_c_51 : Ref sig .tc := ⟨.hbm, 232, rfl⟩
abbrev main_v172 : Ref sig .tc := ⟨.hbm, 233, rfl⟩
abbrev main_v173 : Ref sig .tc := ⟨.hbm, 234, rfl⟩
abbrev main_c_52 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_cst_53 : Ref sig .tc := ⟨.hbm, 239, rfl⟩
abbrev main_v177 : Ref sig .tc := ⟨.hbm, 240, rfl⟩
abbrev main_v178 : Ref sig .tc := ⟨.hbm, 241, rfl⟩
abbrev main_cst_54 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186_0 : Ref sig .tc := ⟨.hbm, 250, rfl⟩
abbrev main_v186_1 : Ref sig .tc := ⟨.hbm, 251, rfl⟩
abbrev main_v186_2 : Ref sig .tc := ⟨.hbm, 252, rfl⟩
abbrev main_v186_3 : Ref sig .tc := ⟨.hbm, 253, rfl⟩
abbrev main_v186_4 : Ref sig .tc := ⟨.hbm, 254, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v85 : BitVec 1 := Scalar.cmpi .eq arg0 c31_i32
  let v86 : BitVec 32 := Scalar.extui v85
  let c0_i32_52 : BitVec 32 := 0#32
  let v87 : BitVec 1 := Scalar.cmpi .ne v86 c0_i32_52
  v87

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2048x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S65536x128 : Shape := ⟨2, ![65536, 128]⟩
abbrev S65536 : Shape := ⟨1, ![65536]⟩
abbrev S128x128 : Shape := ⟨2, ![128, 128]⟩
abbrev S128 : Shape := ⟨1, ![128]⟩
abbrev S32x128 : Shape := ⟨2, ![32, 128]⟩
abbrev S32 : Shape := ⟨1, ![32]⟩
abbrev S512x32 : Shape := ⟨2, ![512, 32]⟩
abbrev S1x128 : Shape := ⟨2, ![1, 128]⟩
abbrev S_ : Shape := ⟨0, ![]⟩
abbrev S128x32 : Shape := ⟨2, ![128, 32]⟩
abbrev S65536x32 : Shape := ⟨2, ![65536, 32]⟩
abbrev S1x32 : Shape := ⟨2, ![1, 32]⟩
abbrev S65536x1 : Shape := ⟨2, ![65536, 1]⟩
abbrev S512 : Shape := ⟨1, ![512]⟩
abbrev S1x512 : Shape := ⟨2, ![1, 512]⟩
abbrev S65536x512 : Shape := ⟨2, ![65536, 512]⟩
abbrev S32x512 : Shape := ⟨2, ![32, 512]⟩
abbrev S1x1 : Shape := ⟨2, ![1, 1]⟩

abbrev nBuf : Space → Nat
  | .hbm => 371
  | .vmem => 0
  | .smem => 0
  | _ => 0

abbrev hbmTy0_0 (i : Nat) : BufTy := match i % 128 with
  | 0 => ⟨S65536x128, .f32⟩
  | 1 => ⟨S65536, .i1⟩
  | 2 => ⟨S128x128, .f32⟩
  | 3 => ⟨S128, .f32⟩
  | 4 => ⟨S32x128, .f32⟩
  | 5 => ⟨S32, .f32⟩
  | 6 => ⟨S512x32, .f32⟩
  | 7 => ⟨S128x128, .f32⟩
  | 8 => ⟨S65536x128, .f32⟩
  | 9 => ⟨S1x128, .f32⟩
  | 10 => ⟨S65536x128, .f32⟩
  | 11 => ⟨S65536x128, .f32⟩
  | 12 => ⟨S_, .f32⟩
  | 13 => ⟨S65536x128, .f32⟩
  | 14 => ⟨S65536x128, .f32⟩
  | 15 => ⟨S128x32, .f32⟩
  | 16 => ⟨S65536x32, .f32⟩
  | 17 => ⟨S1x32, .f32⟩
  | 18 => ⟨S65536x32, .f32⟩
  | 19 => ⟨S65536x32, .f32⟩
  | 20 => ⟨S65536x32, .f32⟩
  | 21 => ⟨S_, .f32⟩
  | 22 => ⟨S65536, .f32⟩
  | 23 => ⟨S65536x1, .f32⟩
  | 24 => ⟨S512x32, .f32⟩
  | 25 => ⟨S_, .f32⟩
  | 26 => ⟨S512, .f32⟩
  | 27 => ⟨S1x512, .f32⟩
  | 28 => ⟨S65536x512, .f32⟩
  | 29 => ⟨S65536x512, .f32⟩
  | 30 => ⟨S65536x512, .f32⟩
  | 31 => ⟨S32x512, .f32⟩
  | 32 => ⟨S65536x512, .f32⟩
  | 33 => ⟨S_, .f32⟩
  | 34 => ⟨S65536x512, .f32⟩
  | 35 => ⟨S65536x512, .f32⟩
  | 36 => ⟨S65536x512, .f32⟩
  | 37 => ⟨S65536x512, .f32⟩
  | 38 => ⟨S_, .f32⟩
  | 39 => ⟨S65536x512, .f32⟩
  | 40 => ⟨S65536x512, .f32⟩
  | 41 => ⟨S_, .f32⟩
  | 42 => ⟨S65536, .f32⟩
  | 43 => ⟨S65536x1, .f32⟩
  | 44 => ⟨S65536x512, .f32⟩
  | 45 => ⟨S65536x512, .f32⟩
  | 46 => ⟨S_, .f32⟩
  | 47 => ⟨S_, .f32⟩
  | 48 => ⟨S_, .f32⟩
  | 49 => ⟨S65536x512, .f32⟩
  | 50 => ⟨S65536x512, .f32⟩
  | 51 => ⟨S_, .f32⟩
  | 52 => ⟨S65536x512, .f32⟩
  | 53 => ⟨S65536x512, .f32⟩
  | 54 => ⟨S65536x512, .i32⟩
  | 55 => ⟨S65536x512, .i32⟩
  | 56 => ⟨S_, .i32⟩
  | 57 => ⟨S65536x512, .i32⟩
  | 58 => ⟨S_, .i32⟩
  | 59 => ⟨S65536x512, .i32⟩
  | 60 => ⟨S65536x512, .i32⟩
  | 61 => ⟨S_, .i32⟩
  | 62 => ⟨S65536x512, .i32⟩
  | 63 => ⟨S65536x512, .i32⟩
  | 64 => ⟨S65536x512, .i32⟩
  | 65 => ⟨S_, .i32⟩
  | 66 => ⟨S65536x512, .i32⟩
  | 67 => ⟨S65536x512, .i32⟩
  | 68 => ⟨S65536x512, .i32⟩
  | 69 => ⟨S_, .i32⟩
  | 70 => ⟨S65536x512, .i32⟩
  | 71 => ⟨S65536x512, .i32⟩
  | 72 => ⟨S_, .i32⟩
  | 73 => ⟨S65536x512, .i32⟩
  | 74 => ⟨S65536x512, .i32⟩
  | 75 => ⟨S65536x512, .i32⟩
  | 76 => ⟨S65536x512, .i32⟩
  | 77 => ⟨S65536x512, .i32⟩
  | 78 => ⟨S_, .i32⟩
  | 79 => ⟨S65536x512, .i32⟩
  | 80 => ⟨S65536x512, .i32⟩
  | 81 => ⟨S_, .i32⟩
  | 82 => ⟨S65536x512, .i32⟩
  | 83 => ⟨S65536x512, .i32⟩
  | 84 => ⟨S65536x512, .i32⟩
  | 85 => ⟨S65536x512, .i32⟩
  | 86 => ⟨S65536x512, .i32⟩
  | 87 => ⟨S_, .i32⟩
  | 88 => ⟨S65536x512, .i32⟩
  | 89 => ⟨S65536x512, .i32⟩
  | 90 => ⟨S_, .i32⟩
  | 91 => ⟨S65536x512, .i32⟩
  | 92 => ⟨S65536x512, .i32⟩
  | 93 => ⟨S65536x512, .i32⟩
  | 94 => ⟨S65536x512, .i32⟩
  | 95 => ⟨S65536x512, .i32⟩
  | 96 => ⟨S_, .i32⟩
  | 97 => ⟨S65536x512, .i32⟩
  | 98 => ⟨S65536x512, .i32⟩
  | 99 => ⟨S_, .i32⟩
  | 100 => ⟨S65536x512, .i32⟩
  | 101 => ⟨S65536x512, .i32⟩
  | 102 => ⟨S65536x512, .i32⟩
  | 103 => ⟨S65536x512, .i32⟩
  | 104 => ⟨S_, .i32⟩
  | 105 => ⟨S65536x512, .i32⟩
  | 106 => ⟨S65536x512, .i32⟩
  | 107 => ⟨S_, .i32⟩
  | 108 => ⟨S65536x512, .i32⟩
  | 109 => ⟨S65536x512, .i32⟩
  | 110 => ⟨S65536x512, .i32⟩
  | 111 => ⟨S_, .i32⟩
  | 112 => ⟨S65536x512, .i32⟩
  | 113 => ⟨S65536x512, .i32⟩
  | 114 => ⟨S_, .i32⟩
  | 115 => ⟨S65536x512, .i32⟩
  | 116 => ⟨S65536x512, .i32⟩
  | 117 => ⟨S65536x512, .i32⟩
  | 118 => ⟨S65536x512, .i32⟩
  | 119 => ⟨S65536x512, .i32⟩
  | 120 => ⟨S_, .i32⟩
  | 121 => ⟨S65536x512, .i32⟩
  | 122 => ⟨S65536x512, .i32⟩
  | 123 => ⟨S_, .i32⟩
  | 124 => ⟨S65536x512, .i32⟩
  | 125 => ⟨S65536x512, .i32⟩
  | 126 => ⟨S65536x512, .i32⟩
  | 127 => ⟨S65536x512, .i32⟩
  | _ => ⟨S65536x128, .f32⟩

abbrev hbmTy0_1 (i : Nat) : BufTy := match i % 128 with
  | 0 => ⟨S65536x512, .i32⟩
  | 1 => ⟨S_, .i32⟩
  | 2 => ⟨S65536x512, .i32⟩
  | 3 => ⟨S65536x512, .i32⟩
  | 4 => ⟨S_, .i32⟩
  | 5 => ⟨S65536x512, .i32⟩
  | 6 => ⟨S65536x512, .i32⟩
  | 7 => ⟨S65536x512, .i32⟩
  | 8 => ⟨S65536x512, .i32⟩
  | 9 => ⟨S65536x512, .i32⟩
  | 10 => ⟨S_, .i32⟩
  | 11 => ⟨S65536x512, .i32⟩
  | 12 => ⟨S65536x512, .i32⟩
  | 13 => ⟨S_, .i32⟩
  | 14 => ⟨S65536x512, .i32⟩
  | 15 => ⟨S65536x512, .i32⟩
  | 16 => ⟨S65536x512, .i32⟩
  | 17 => ⟨S65536x512, .i32⟩
  | 18 => ⟨S_, .i32⟩
  | 19 => ⟨S65536x512, .i32⟩
  | 20 => ⟨S65536x512, .i32⟩
  | 21 => ⟨S_, .i32⟩
  | 22 => ⟨S65536x512, .i32⟩
  | 23 => ⟨S65536x512, .i32⟩
  | 24 => ⟨S65536x512, .i32⟩
  | 25 => ⟨S_, .i32⟩
  | 26 => ⟨S65536x512, .i32⟩
  | 27 => ⟨S65536x512, .i32⟩
  | 28 => ⟨S_, .i32⟩
  | 29 => ⟨S65536x512, .i32⟩
  | 30 => ⟨S65536x512, .i32⟩
  | 31 => ⟨S65536x512, .i32⟩
  | 32 => ⟨S65536x512, .i32⟩
  | 33 => ⟨S65536x512, .i32⟩
  | 34 => ⟨S_, .i32⟩
  | 35 => ⟨S65536x512, .i32⟩
  | 36 => ⟨S65536x512, .i32⟩
  | 37 => ⟨S_, .i32⟩
  | 38 => ⟨S65536x512, .i32⟩
  | 39 => ⟨S65536x512, .i32⟩
  | 40 => ⟨S65536x512, .i32⟩
  | 41 => ⟨S65536x512, .i32⟩
  | 42 => ⟨S65536x512, .i32⟩
  | 43 => ⟨S_, .i32⟩
  | 44 => ⟨S65536x512, .i32⟩
  | 45 => ⟨S65536x512, .i32⟩
  | 46 => ⟨S_, .i32⟩
  | 47 => ⟨S65536x512, .i32⟩
  | 48 => ⟨S65536x512, .i32⟩
  | 49 => ⟨S65536x512, .i32⟩
  | 50 => ⟨S65536x512, .i32⟩
  | 51 => ⟨S65536x512, .i32⟩
  | 52 => ⟨S_, .i32⟩
  | 53 => ⟨S65536x512, .i32⟩
  | 54 => ⟨S65536x512, .i32⟩
  | 55 => ⟨S_, .i32⟩
  | 56 => ⟨S65536x512, .i32⟩
  | 57 => ⟨S65536x512, .i32⟩
  | 58 => ⟨S65536x512, .i32⟩
  | 59 => ⟨S65536x512, .i32⟩
  | 60 => ⟨S_, .i32⟩
  | 61 => ⟨S65536x512, .i32⟩
  | 62 => ⟨S65536x512, .i32⟩
  | 63 => ⟨S_, .i32⟩
  | 64 => ⟨S65536x512, .i32⟩
  | 65 => ⟨S65536x512, .i32⟩
  | 66 => ⟨S65536x512, .i32⟩
  | 67 => ⟨S_, .i32⟩
  | 68 => ⟨S65536x512, .i32⟩
  | 69 => ⟨S65536x512, .i32⟩
  | 70 => ⟨S_, .i32⟩
  | 71 => ⟨S65536x512, .i32⟩
  | 72 => ⟨S65536x512, .i32⟩
  | 73 => ⟨S65536x512, .i32⟩
  | 74 => ⟨S65536x512, .i32⟩
  | 75 => ⟨S65536x512, .i32⟩
  | 76 => ⟨S_, .i32⟩
  | 77 => ⟨S65536x512, .i32⟩
  | 78 => ⟨S65536x512, .i32⟩
  | 79 => ⟨S_, .i32⟩
  | 80 => ⟨S65536x512, .i32⟩
  | 81 => ⟨S65536x512, .i32⟩
  | 82 => ⟨S65536x512, .i32⟩
  | 83 => ⟨S65536x512, .i32⟩
  | 84 => ⟨S65536x512, .i32⟩
  | 85 => ⟨S_, .i32⟩
  | 86 => ⟨S65536x512, .i32⟩
  | 87 => ⟨S65536x512, .i32⟩
  | 88 => ⟨S_, .i32⟩
  | 89 => ⟨S65536x512, .i32⟩
  | 90 => ⟨S65536x512, .i32⟩
  | 91 => ⟨S65536x512, .i32⟩
  | 92 => ⟨S65536x512, .i32⟩
  | 93 => ⟨S65536x512, .i32⟩
  | 94 => ⟨S_, .i32⟩
  | 95 => ⟨S65536x512, .i32⟩
  | 96 => ⟨S65536x512, .i32⟩
  | 97 => ⟨S_, .i32⟩
  | 98 => ⟨S65536x512, .i32⟩
  | 99 => ⟨S65536x512, .i32⟩
  | 100 => ⟨S65536x512, .i32⟩
  | 101 => ⟨S65536x512, .i32⟩
  | 102 => ⟨S_, .i32⟩
  | 103 => ⟨S65536x512, .i32⟩
  | 104 => ⟨S65536x512, .i32⟩
  | 105 => ⟨S_, .i32⟩
  | 106 => ⟨S65536x512, .i32⟩
  | 107 => ⟨S65536x512, .i32⟩
  | 108 => ⟨S65536x512, .i32⟩
  | 109 => ⟨S_, .i32⟩
  | 110 => ⟨S65536x512, .i32⟩
  | 111 => ⟨S65536x512, .i32⟩
  | 112 => ⟨S_, .i32⟩
  | 113 => ⟨S65536x512, .i32⟩
  | 114 => ⟨S65536x512, .i32⟩
  | 115 => ⟨S65536x512, .i32⟩
  | 116 => ⟨S65536x512, .i32⟩
  | 117 => ⟨S65536x512, .i32⟩
  | 118 => ⟨S_, .i32⟩
  | 119 => ⟨S65536x512, .i32⟩
  | 120 => ⟨S65536x512, .i32⟩
  | 121 => ⟨S_, .i32⟩
  | 122 => ⟨S65536x512, .i32⟩
  | 123 => ⟨S65536x512, .i32⟩
  | 124 => ⟨S65536x512, .i32⟩
  | 125 => ⟨S65536x512, .i32⟩
  | 126 => ⟨S65536x512, .i32⟩
  | 127 => ⟨S_, .i32⟩
  | _ => ⟨S65536x128, .f32⟩

abbrev hbmTy0_2 (i : Nat) : BufTy := match i % 128 with
  | 0 => ⟨S65536x512, .i32⟩
  | 1 => ⟨S65536x512, .i32⟩
  | 2 => ⟨S_, .i32⟩
  | 3 => ⟨S65536x512, .i32⟩
  | 4 => ⟨S65536x512, .i32⟩
  | 5 => ⟨S65536x512, .i32⟩
  | 6 => ⟨S65536x512, .i32⟩
  | 7 => ⟨S65536x512, .i32⟩
  | 8 => ⟨S_, .i32⟩
  | 9 => ⟨S65536x512, .i32⟩
  | 10 => ⟨S65536x512, .i32⟩
  | 11 => ⟨S_, .i32⟩
  | 12 => ⟨S65536x512, .i32⟩
  | 13 => ⟨S65536x512, .i32⟩
  | 14 => ⟨S65536x512, .i32⟩
  | 15 => ⟨S65536x512, .i32⟩
  | 16 => ⟨S_, .i32⟩
  | 17 => ⟨S65536x512, .i32⟩
  | 18 => ⟨S65536x512, .i32⟩
  | 19 => ⟨S_, .i32⟩
  | 20 => ⟨S65536x512, .i32⟩
  | 21 => ⟨S65536x512, .i32⟩
  | 22 => ⟨S65536x512, .i32⟩
  | 23 => ⟨S_, .i32⟩
  | 24 => ⟨S65536x512, .i32⟩
  | 25 => ⟨S65536x512, .i32⟩
  | 26 => ⟨S_, .i32⟩
  | 27 => ⟨S65536x512, .i32⟩
  | 28 => ⟨S65536x512, .i32⟩
  | 29 => ⟨S65536x512, .f32⟩
  | 30 => ⟨S_, .f32⟩
  | 31 => ⟨S65536x512, .f32⟩
  | 32 => ⟨S65536x512, .f32⟩
  | 33 => ⟨S_, .f32⟩
  | 34 => ⟨S65536x512, .f32⟩
  | 35 => ⟨S65536x512, .f32⟩
  | 36 => ⟨S_, .f32⟩
  | 37 => ⟨S65536x512, .f32⟩
  | 38 => ⟨S65536x512, .f32⟩
  | 39 => ⟨S_, .f32⟩
  | 40 => ⟨S65536x512, .f32⟩
  | 41 => ⟨S65536x512, .f32⟩
  | 42 => ⟨S65536x512, .f32⟩
  | 43 => ⟨S65536x512, .f32⟩
  | 44 => ⟨S65536x512, .f32⟩
  | 45 => ⟨S65536x512, .f32⟩
  | 46 => ⟨S65536x512, .f32⟩
  | 47 => ⟨S_, .f32⟩
  | 48 => ⟨S65536, .f32⟩
  | 49 => ⟨S65536x1, .f32⟩
  | 50 => ⟨S65536x512, .f32⟩
  | 51 => ⟨S65536x512, .i1⟩
  | 52 => ⟨S65536x512, .i32⟩
  | 53 => ⟨S_, .i32⟩
  | 54 => ⟨S_, .i32⟩
  | 55 => ⟨S65536x512, .i32⟩
  | 56 => ⟨S65536x512, .i32⟩
  | 57 => ⟨S_, .i32⟩
  | 58 => ⟨S65536, .i32⟩
  | 59 => ⟨S65536x1, .i32⟩
  | 60 => ⟨S1x512, .i32⟩
  | 61 => ⟨S65536x512, .i32⟩
  | 62 => ⟨S65536x512, .i32⟩
  | 63 => ⟨S65536x512, .i1⟩
  | 64 => ⟨S65536x512, .f32⟩
  | 65 => ⟨S65536x32, .f32⟩
  | 66 => ⟨S65536, .f32⟩
  | 67 => ⟨S_, .f32⟩
  | 68 => ⟨S_, .f32⟩
  | 69 => ⟨S_, .f32⟩
  | 70 => ⟨S_, .f32⟩
  | 71 => ⟨S65536x32, .f32⟩
  | 72 => ⟨S65536x32, .f32⟩
  | 73 => ⟨S65536x1, .f32⟩
  | 74 => ⟨S65536x32, .f32⟩
  | 75 => ⟨S65536x32, .f32⟩
  | 76 => ⟨S_, .f32⟩
  | 77 => ⟨S_, .f32⟩
  | 78 => ⟨S_, .f32⟩
  | 79 => ⟨S_, .f32⟩
  | 80 => ⟨S_, .f32⟩
  | 81 => ⟨S65536x32, .f32⟩
  | 82 => ⟨S65536x32, .f32⟩
  | 83 => ⟨S65536x1, .f32⟩
  | 84 => ⟨S65536x32, .f32⟩
  | 85 => ⟨S65536x32, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S65536x32, .f32⟩
  | 95 => ⟨S65536x32, .f32⟩
  | 96 => ⟨S65536x1, .f32⟩
  | 97 => ⟨S65536x512, .f32⟩
  | 98 => ⟨S65536x512, .f32⟩
  | 99 => ⟨S_, .f32⟩
  | 100 => ⟨S512, .f32⟩
  | 101 => ⟨S512, .f32⟩
  | 102 => ⟨S512, .f32⟩
  | 103 => ⟨S_, .f32⟩
  | 104 => ⟨S512, .f32⟩
  | 105 => ⟨S512, .f32⟩
  | 106 => ⟨S512, .f32⟩
  | 107 => ⟨S512, .f32⟩
  | 108 => ⟨S_, .f32⟩
  | 109 => ⟨S_, .f32⟩
  | 110 => ⟨S_, .f32⟩
  | 111 => ⟨S_, .f32⟩
  | 112 => ⟨S1x1, .f32⟩
  | 113 => ⟨S1x1, .f32⟩
  | 114 => ⟨S65536x512, .f32⟩
  | _ => ⟨S65536x128, .f32⟩

abbrev hbmTy (i : Nat) : BufTy := match i / 128 with
  | 0 => hbmTy0_0 i
  | 1 => hbmTy0_1 i
  | 2 => hbmTy0_2 i
  | _ => ⟨S65536x128, .f32⟩

abbrev bufTy : (tb : Table) → Fin (tcTables nBuf tb) → BufTy
  | .hbm, ⟨i, _⟩ => hbmTy i
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_cst_6 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_10 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_12 : Ref sig .tc := ⟨.hbm, 78, rfl⟩
abbrev main_v52 : Ref sig .tc := ⟨.hbm, 79, rfl⟩
abbrev main_v53 : Ref sig .tc := ⟨.hbm, 80, rfl⟩
abbrev main_c_13 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_18 : Ref sig .tc := ⟨.hbm, 104, rfl⟩
abbrev main_v72 : Ref sig .tc := ⟨.hbm, 105, rfl⟩
abbrev main_v73 : Ref sig .tc := ⟨.hbm, 106, rfl⟩
abbrev main_c_19 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_20 : Ref sig .tc := ⟨.hbm, 111, rfl⟩
abbrev main_v77 : Ref sig .tc := ⟨.hbm, 112, rfl⟩
abbrev main_v78 : Ref sig .tc := ⟨.hbm, 113, rfl⟩
abbrev main_c_21 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_22 : Ref sig .tc := ⟨.hbm, 120, rfl⟩
abbrev main_v84 : Ref sig .tc := ⟨.hbm, 121, rfl⟩
abbrev main_v85 : Ref sig .tc := ⟨.hbm, 122, rfl⟩
abbrev main_c_23 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_24 : Ref sig .tc := ⟨.hbm, 129, rfl⟩
abbrev main_v91 : Ref sig .tc := ⟨.hbm, 130, rfl⟩
abbrev main_v92 : Ref sig .tc := ⟨.hbm, 131, rfl⟩
abbrev main_c_25 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_c_26 : Ref sig .tc := ⟨.hbm, 138, rfl⟩
abbrev main_v98 : Ref sig .tc := ⟨.hbm, 139, rfl⟩
abbrev main_v99 : Ref sig .tc := ⟨.hbm, 140, rfl⟩
abbrev main_c_27 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_c_28 : Ref sig .tc := ⟨.hbm, 146, rfl⟩
abbrev main_v104 : Ref sig .tc := ⟨.hbm, 147, rfl⟩
abbrev main_v105 : Ref sig .tc := ⟨.hbm, 148, rfl⟩
abbrev main_c_29 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_c_30 : Ref sig .tc := ⟨.hbm, 153, rfl⟩
abbrev main_v109 : Ref sig .tc := ⟨.hbm, 154, rfl⟩
abbrev main_v110 : Ref sig .tc := ⟨.hbm, 155, rfl⟩
abbrev main_c_31 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_c_32 : Ref sig .tc := ⟨.hbm, 162, rfl⟩
abbrev main_v116 : Ref sig .tc := ⟨.hbm, 163, rfl⟩
abbrev main_v117 : Ref sig .tc := ⟨.hbm, 164, rfl⟩
abbrev main_c_33 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_c_34 : Ref sig .tc := ⟨.hbm, 171, rfl⟩
abbrev main_v123 : Ref sig .tc := ⟨.hbm, 172, rfl⟩
abbrev main_v124 : Ref sig .tc := ⟨.hbm, 173, rfl⟩
abbrev main_c_35 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_c_36 : Ref sig .tc := ⟨.hbm, 180, rfl⟩
abbrev main_v130 : Ref sig .tc := ⟨.hbm, 181, rfl⟩
abbrev main_v131 : Ref sig .tc := ⟨.hbm, 182, rfl⟩
abbrev main_c_37 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_c_38 : Ref sig .tc := ⟨.hbm, 188, rfl⟩
abbrev main_v136 : Ref sig .tc := ⟨.hbm, 189, rfl⟩
abbrev main_v137 : Ref sig .tc := ⟨.hbm, 190, rfl⟩
abbrev main_c_39 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_c_40 : Ref sig .tc := ⟨.hbm, 195, rfl⟩
abbrev main_v141 : Ref sig .tc := ⟨.hbm, 196, rfl⟩
abbrev main_v142 : Ref sig .tc := ⟨.hbm, 197, rfl⟩
abbrev main_c_41 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_c_42 : Ref sig .tc := ⟨.hbm, 204, rfl⟩
abbrev main_v148 : Ref sig .tc := ⟨.hbm, 205, rfl⟩
abbrev main_v149 : Ref sig .tc := ⟨.hbm, 206, rfl⟩
abbrev main_c_43 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_c_44 : Ref sig .tc := ⟨.hbm, 213, rfl⟩
abbrev main_v155 : Ref sig .tc := ⟨.hbm, 214, rfl⟩
abbrev main_v156 : Ref sig .tc := ⟨.hbm, 215, rfl⟩
abbrev main_c_45 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_c_46 : Ref sig .tc := ⟨.hbm, 222, rfl⟩
abbrev main_v162 : Ref sig .tc := ⟨.hbm, 223, rfl⟩
abbrev main_v163 : Ref sig .tc := ⟨.hbm, 224, rfl⟩
abbrev main_c_47 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_c_48 : Ref sig .tc := ⟨.hbm, 230, rfl⟩
abbrev main_v168 : Ref sig .tc := ⟨.hbm, 231, rfl⟩
abbrev main_v169 : Ref sig .tc := ⟨.hbm, 232, rfl⟩
abbrev main_c_49 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_c_50 : Ref sig .tc := ⟨.hbm, 237, rfl⟩
abbrev main_v173 : Ref sig .tc := ⟨.hbm, 238, rfl⟩
abbrev main_v174 : Ref sig .tc := ⟨.hbm, 239, rfl⟩
abbrev main_c_51 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_c_52 : Ref sig .tc := ⟨.hbm, 246, rfl⟩
abbrev main_v180 : Ref sig .tc := ⟨.hbm, 247, rfl⟩
abbrev main_v181 : Ref sig .tc := ⟨.hbm, 248, rfl⟩
abbrev main_c_53 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_c_54 : Ref sig .tc := ⟨.hbm, 255, rfl⟩
abbrev main_v187 : Ref sig .tc := ⟨.hbm, 256, rfl⟩
abbrev main_v188 : Ref sig .tc := ⟨.hbm, 257, rfl⟩
abbrev main_c_55 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_c_56 : Ref sig .tc := ⟨.hbm, 264, rfl⟩
abbrev main_v194 : Ref sig .tc := ⟨.hbm, 265, rfl⟩
abbrev main_v195 : Ref sig .tc := ⟨.hbm, 266, rfl⟩
abbrev main_c_57 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_c_58 : Ref sig .tc := ⟨.hbm, 272, rfl⟩
abbrev main_v200 : Ref sig .tc := ⟨.hbm, 273, rfl⟩
abbrev main_v201 : Ref sig .tc := ⟨.hbm, 274, rfl⟩
abbrev main_c_59 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_c_60 : Ref sig .tc := ⟨.hbm, 279, rfl⟩
abbrev main_v205 : Ref sig .tc := ⟨.hbm, 280, rfl⟩
abbrev main_v206 : Ref sig .tc := ⟨.hbm, 281, rfl⟩
abbrev main_c_61 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩
abbrev main_cst_62 : Ref sig .tc := ⟨.hbm, 286, rfl⟩
abbrev main_v210 : Ref sig .tc := ⟨.hbm, 287, rfl⟩
abbrev main_v211 : Ref sig .tc := ⟨.hbm, 288, rfl⟩
abbrev main_cst_63 : Ref sig .tc := ⟨.hbm, 289, rfl⟩
abbrev main_v212 : Ref sig .tc := ⟨.hbm, 290, rfl⟩
abbrev main_v213 : Ref sig .tc := ⟨.hbm, 291, rfl⟩
abbrev main_cst_64 : Ref sig .tc := ⟨.hbm, 292, rfl⟩
abbrev main_v214 : Ref sig .tc := ⟨.hbm, 293, rfl⟩
abbrev main_v215 : Ref sig .tc := ⟨.hbm, 294, rfl⟩
abbrev main_cst_65 : Ref sig .tc := ⟨.hbm, 295, rfl⟩
abbrev main_v216 : Ref sig .tc := ⟨.hbm, 296, rfl⟩
abbrev main_v217 : Ref sig .tc := ⟨.hbm, 297, rfl⟩
abbrev main_v218 : Ref sig .tc := ⟨.hbm, 298, rfl⟩
abbrev main_v219 : Ref sig .tc := ⟨.hbm, 299, rfl⟩
abbrev main_v220 : Ref sig .tc := ⟨.hbm, 300, rfl⟩
abbrev main_v221 : Ref sig .tc := ⟨.hbm, 301, rfl⟩
abbrev main_v222 : Ref sig .tc := ⟨.hbm, 302, rfl⟩
abbrev main_cst_66 : Ref sig .tc := ⟨.hbm, 303, rfl⟩
abbrev main_v223 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_c_67 : Ref sig .tc := ⟨.hbm, 309, rfl⟩
abbrev main_call1_v0 : Ref sig .tc := ⟨.hbm, 310, rfl⟩
abbrev main_call1_v1 : Ref sig .tc := ⟨.hbm, 311, rfl⟩
abbrev main_v228 : Ref sig .tc := ⟨.hbm, 312, rfl⟩
abbrev main_c_68 : Ref sig .tc := ⟨.hbm, 313, rfl⟩
abbrev main_v229 : Ref sig .tc := ⟨.hbm, 314, rfl⟩
abbrev main_call2_v0 : Ref sig .tc := ⟨.hbm, 315, rfl⟩
abbrev main_call2_v1 : Ref sig .tc := ⟨.hbm, 316, rfl⟩
abbrev main_call2_v2 : Ref sig .tc := ⟨.hbm, 317, rfl⟩
abbrev main_call2_v3 : Ref sig .tc := ⟨.hbm, 318, rfl⟩
abbrev main_call2_v4 : Ref sig .tc := ⟨.hbm, 319, rfl⟩
abbrev main_v230 : Ref sig .tc := ⟨.hbm, 320, rfl⟩
abbrev main_v231 : Ref sig .tc := ⟨.hbm, 321, rfl⟩
abbrev main_v232 : Ref sig .tc := ⟨.hbm, 322, rfl⟩
abbrev main_cst_69 : Ref sig .tc := ⟨.hbm, 323, rfl⟩
abbrev main_v233 : Ref sig .tc := ⟨.hbm, 324, rfl⟩
abbrev main_cst_70 : Ref sig .tc := ⟨.hbm, 325, rfl⟩
abbrev main_v234 : Ref sig .tc := ⟨.hbm, 326, rfl⟩
abbrev main_v235 : Ref sig .tc := ⟨.hbm, 327, rfl⟩
abbrev main_v236 : Ref sig .tc := ⟨.hbm, 328, rfl⟩
abbrev main_v237 : Ref sig .tc := ⟨.hbm, 329, rfl⟩
abbrev main_v238 : Ref sig .tc := ⟨.hbm, 330, rfl⟩
abbrev main_v239 : Ref sig .tc := ⟨.hbm, 331, rfl⟩
abbrev main_cst_71 : Ref sig .tc := ⟨.hbm, 332, rfl⟩
abbrev main_v240 : Ref sig .tc := ⟨.hbm, 333, rfl⟩
abbrev main_cst_72 : Ref sig .tc := ⟨.hbm, 334, rfl⟩
abbrev main_v241 : Ref sig .tc := ⟨.hbm, 335, rfl⟩
abbrev main_v242 : Ref sig .tc := ⟨.hbm, 336, rfl⟩
abbrev main_v243 : Ref sig .tc := ⟨.hbm, 337, rfl⟩
abbrev main_v244 : Ref sig .tc := ⟨.hbm, 338, rfl⟩
abbrev main_v245 : Ref sig .tc := ⟨.hbm, 339, rfl⟩
abbrev main_v246 : Ref sig .tc := ⟨.hbm, 340, rfl⟩
abbrev main_v247 : Ref sig .tc := ⟨.hbm, 341, rfl⟩
abbrev main_cst_73 : Ref sig .tc := ⟨.hbm, 342, rfl⟩
abbrev main_v248 : Ref sig .tc := ⟨.hbm, 343, rfl⟩
abbrev main_cst_74 : Ref sig .tc := ⟨.hbm, 344, rfl⟩
abbrev main_v249 : Ref sig .tc := ⟨.hbm, 345, rfl⟩
abbrev main_v250 : Ref sig .tc := ⟨.hbm, 346, rfl⟩
abbrev main_cst_75 : Ref sig .tc := ⟨.hbm, 347, rfl⟩
abbrev main_v251 : Ref sig .tc := ⟨.hbm, 348, rfl⟩
abbrev main_v252 : Ref sig .tc := ⟨.hbm, 349, rfl⟩
abbrev main_v253 : Ref sig .tc := ⟨.hbm, 350, rfl⟩
abbrev main_v254 : Ref sig .tc := ⟨.hbm, 351, rfl⟩
abbrev main_v255 : Ref sig .tc := ⟨.hbm, 352, rfl⟩
abbrev main_v256 : Ref sig .tc := ⟨.hbm, 353, rfl⟩
abbrev main_v257 : Ref sig .tc := ⟨.hbm, 354, rfl⟩
abbrev main_cst_76 : Ref sig .tc := ⟨.hbm, 355, rfl⟩
abbrev main_v258 : Ref sig .tc := ⟨.hbm, 356, rfl⟩
abbrev main_v259 : Ref sig .tc := ⟨.hbm, 357, rfl⟩
abbrev main_v260 : Ref sig .tc := ⟨.hbm, 358, rfl⟩
abbrev main_cst_77 : Ref sig .tc := ⟨.hbm, 359, rfl⟩
abbrev main_v261 : Ref sig .tc := ⟨.hbm, 360, rfl⟩
abbrev main_v262 : Ref sig .tc := ⟨.hbm, 361, rfl⟩
abbrev main_v263 : Ref sig .tc := ⟨.hbm, 362, rfl⟩
abbrev main_v264 : Ref sig .tc := ⟨.hbm, 363, rfl⟩
abbrev main_cst_78 : Ref sig .tc := ⟨.hbm, 364, rfl⟩
abbrev main_v265 : Ref sig .tc := ⟨.hbm, 365, rfl⟩
abbrev main_v266 : Ref sig .tc := ⟨.hbm, 366, rfl⟩
abbrev main_v267 : Ref sig .tc := ⟨.hbm, 367, rfl⟩
abbrev main_v268 : Ref sig .tc := ⟨.hbm, 368, rfl⟩
abbrev main_v269 : Ref sig .tc := ⟨.hbm, 369, rfl⟩
abbrev main_v270 : Ref sig .tc := ⟨.hbm, 370, rfl⟩

abbrev nD : Nat := 1
abbrev τ : Topo := Topo.v7x

variable {F : FTy → Type} [FloatOps F]
-- ==== Proof.Words.lean ====
module

public import Idealize.ShloMosaic.Lib.ValueIdx

@[expose] public section

noncomputable section

namespace Cert.Words

open Idealize.ShloMosaic

/-- A word turned left by `r` and, with `s = 32 - r`, right by `s`, joined: the rotation of one hash round. -/
def rot (w r s : BitVec 32) : BitVec 32 := IntOp.ori (IntOp.shli .host w r) (IntOp.shrui .host w s)

/-- Four hash rounds: from the sum of the two words and the second word, the two words after four rounds. -/
def rounds (r1 s1 r2 s2 r3 s3 r4 s4 : BitVec 32) (p : BitVec 32 × BitVec 32) : BitVec 32 × BitVec 32 :=
  let w1 := IntOp.xori p.1 (rot p.2 r1 s1)
  let t1 := IntOp.addi p.1 w1
  let w2 := IntOp.xori t1 (rot w1 r2 s2)
  let t2 := IntOp.addi t1 w2
  let w3 := IntOp.xori t2 (rot w2 r3 s3)
  let t3 := IntOp.addi t2 w3
  (t3, IntOp.xori t3 (rot w3 r4 s4))

/-- The rounds of the first, third and fifth group, and the key words added after them. -/
def groupA (a b : BitVec 32) (p : BitVec 32 × BitVec 32) : BitVec 32 × BitVec 32 :=
  let q := rounds 13#32 19#32 15#32 17#32 26#32 6#32 6#32 26#32 p
  (IntOp.addi q.1 a, IntOp.addi q.2 b)

/-- The rounds of the second and fourth group, and the key words added after them. -/
def groupB (a b : BitVec 32) (p : BitVec 32 × BitVec 32) : BitVec 32 × BitVec 32 :=
  let q := rounds 17#32 15#32 29#32 3#32 16#32 16#32 24#32 8#32 p
  (IntOp.addi q.1 a, IntOp.addi q.2 b)

/-- What the next group starts from: the sum of the two words, and the second word. -/
def start (p : BitVec 32 × BitVec 32) : BitVec 32 × BitVec 32 := (IntOp.addi p.1 p.2, p.2)

/-- The five groups, from the sum of the two words and the second word. -/
def hash (p : BitVec 32 × BitVec 32) : BitVec 32 × BitVec 32 :=
  groupA 466689008#32 5#32 <| start <| groupB 42#32 466689012#32 <| start <| groupA 0#32 45#32 <| start <|
    groupB 466689008#32 2#32 <| start <| groupA 42#32 466689009#32 p

/-- The random word of the element whose count is `n`: the two hashed words combined. -/
def word (n : BitVec 32) : BitVec 32 :=
  let q := hash (IntOp.addi 0#32 (IntOp.addi n 42#32), IntOp.addi n 42#32)
  IntOp.xori q.1 q.2

/-- The word whose bits are those of a number between one and two. -/
def unitBits (w : BitVec 32) : BitVec 32 := IntOp.ori (IntOp.shrui .host w 9#32) 1065353216#32

end Cert.Words
-- ==== Proof.Rows.lean ====
module

public import Idealize.ShloMosaic.Lib.Pointwise
public import Idealize.ShloMosaic.PureOps.Ideal.Laws
public import proofs.«01_k».proof.Proof.Words

@[expose] public section

noncomputable section

namespace Cert.Rows

open Idealize.ShloMosaic Cert.Words

/-! ## Extended reals that are real -/

/-- An extended real that is a real number. -/
def Fin' (x : EReal) : Prop := ∃ r : ℝ, x = (r : EReal)

/-- A real number is real. -/
theorem Fin'.coe (r : ℝ) : Fin' (r : EReal) := ⟨r, rfl⟩
/-- Nought is real. -/
theorem Fin'.zero : Fin' 0 := ⟨0, rfl⟩
/-- A sum of two reals is real. -/
theorem Fin'.add {x y : EReal} (hx : Fin' x) (hy : Fin' y) : Fin' (x + y) := by
  obtain ⟨a, rfl⟩ := hx; obtain ⟨b, rfl⟩ := hy; exact ⟨a + b, (EReal.coe_add a b).symm⟩
/-- A product of two reals is real. -/
theorem Fin'.mul {x y : EReal} (hx : Fin' x) (hy : Fin' y) : Fin' (x * y) := by
  obtain ⟨a, rfl⟩ := hx; obtain ⟨b, rfl⟩ := hy; exact ⟨a * b, (EReal.coe_mul a b).symm⟩
/-- The larger of two reals is real. -/
theorem Fin'.max {x y : EReal} (hx : Fin' x) (hy : Fin' y) : Fin' (max x y) := by
  rcases max_choice x y with h | h <;> rw [h] <;> assumption
/-- A finite sum of reals is real. -/
theorem Fin'.sum {ι : Type*} (s : Finset ι) {f : ι → EReal} (hf : ∀ i, Fin' (f i)) : Fin' (∑ i ∈ s, f i) :=
  Finset.sum_induction f Fin' (fun _ _ => Fin'.add) Fin'.zero fun i _ => hf i
/-- Below plus infinity in absolute value, an extended real is real. -/
theorem Fin'.of_abs_lt {x : EReal} (h : Max.max x (-x) < ⊤) : Fin' x := by
  induction x with
  | bot => simp at h
  | top => simp at h
  | coe r => exact ⟨r, rfl⟩

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with the larger of two. -/
theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-! ## The constants -/

/-- The word of minus a quarter. -/
theorem bits_neg_quarter : Ideal.ofBits .f32 0xBE800000#32 = ((-(1 / 4) : ℝ) : EReal) := by
  simp [Ideal.ofBits, Ideal.ieee, -EReal.coe_mul, -EReal.coe_neg]; norm_num
/-- The word of two. -/
theorem bits_two : Ideal.ofBits .f32 0x40000000#32 = ((2 : ℝ) : EReal) := by
  simp [Ideal.ofBits, Ideal.ieee, -EReal.coe_mul]; norm_num
/-- The word of one. -/
theorem bits_one : Ideal.ofBits .f32 0x3F800000#32 = ((1 : ℝ) : EReal) := by
  simp [Ideal.ofBits, Ideal.ieee, -EReal.coe_mul]; norm_num
/-- The word of the literal 0.1, which is near a tenth. -/
theorem bits_tenth : Ideal.ofBits .f32 0x3DCCCCCD#32 = ((13421773 / 134217728 : ℝ) : EReal) := by
  simp [Ideal.ofBits, Ideal.ieee, -EReal.coe_mul]; norm_num
/-- The word of ten. -/
theorem bits_ten : Ideal.ofBits .f32 0x41200000#32 = ((10 : ℝ) : EReal) := by
  simp [Ideal.ofBits, Ideal.ieee, -EReal.coe_mul]; norm_num
/-- The word of minus a thousand. -/
theorem bits_neg_thousand : Ideal.ofBits .f32 0xC47A0000#32 = ((-1000 : ℝ) : EReal) := by
  simp [Ideal.ofBits, Ideal.ieee, -EReal.coe_mul, -EReal.coe_neg]; norm_num
/-- The word of minus infinity. -/
theorem bits_bot : Ideal.ofBits .f32 0xFF800000#32 = ⊥ := by
  simp [Ideal.ofBits, Ideal.ieee]
/-- The word of plus infinity. -/
theorem bits_top : Ideal.ofBits .f32 0x7F800000#32 = ⊤ := by
  simp [Ideal.ofBits, Ideal.ieee]
/-- The word of the least normal number. -/
theorem bits_tiny : Ideal.ofBits .f32 0x00800000#32 = (((2 : ℝ) ^ (-126 : ℤ) : ℝ) : EReal) := by
  simp [Ideal.ofBits, Ideal.ieee, -EReal.coe_mul]; norm_num

/-! ## The noise -/

/-- The noise of a word: minus the logarithm of minus the logarithm of the number between nought and one it gives. -/
def gumbel (w : BitVec 32) : EReal :=
  -Ideal.log (-Ideal.log ((Ideal.ofBits .f32 (unitBits w) - Ideal.ofBits .f32 0x3F800000#32) + Ideal.ofBits .f32 0x00800000#32))

/-- A word's number between one and two, less one, lies between nought and one less a little. -/
theorem unit_bounds (w : BitVec 32) : ∃ p : ℝ, Ideal.ofBits .f32 (unitBits w) - Ideal.ofBits .f32 0x3F800000#32 = (p : EReal)
    ∧ 0 ≤ p ∧ p ≤ 1 - 1 / 8388608 := by
  have h31 : (unitBits w).extractLsb' 31 1 = 0#1 := by
    apply BitVec.eq_of_getLsbD_eq; intro i hi
    interval_cases i
    simp [unitBits, IntOp.ori, IntOp.shrui, IntOp.cornerWord, BitVec.getLsbD_ofNat]
  have hex : (unitBits w).extractLsb' 23 8 = 127#8 := by
    apply BitVec.eq_of_getLsbD_eq; intro i hi
    interval_cases i <;> simp [unitBits, IntOp.ori, IntOp.shrui, IntOp.cornerWord]
  have hfr := ((unitBits w).extractLsb' 0 23).isLt
  have e : Ideal.ofBits .f32 (unitBits w) = (((1 : ℝ) + (((unitBits w).extractLsb' 0 23).toNat : ℝ) / 8388608 : ℝ) : EReal) := by
    simp only [Ideal.ofBits, Ideal.ieee]
    rw [h31, hex]
    generalize ((unitBits w).extractLsb' 0 23).toNat = fr
    rw [if_neg (by decide), if_neg (by decide)]
    congr 1
    rw [if_neg (by decide)]
    push_cast
    norm_num
    ring
  refine ⟨(((unitBits w).extractLsb' 0 23).toNat : ℝ) / 8388608, ?_, by positivity, ?_⟩
  · rw [e, bits_one, ← EReal.coe_sub]; congr 1; ring
  · have : (((unitBits w).extractLsb' 0 23).toNat : ℝ) ≤ 8388607 := by
      have : ((unitBits w).extractLsb' 0 23).toNat ≤ 8388607 := by omega
      exact_mod_cast this
    linarith

/-- The logarithm of two is at most one. -/
theorem log_two_le : Real.log 2 ≤ 1 := by
  have := Real.log_le_sub_one_of_pos (show (0 : ℝ) < 2 by norm_num)
  linarith

/-- Minus the logarithm of minus the logarithm of a number between `2⁻¹²⁶` and one less `2⁻²⁴`: defined, and bounded. -/
theorem loglog_bounds (u : ℝ) (hlo : (2 : ℝ) ^ (-126 : ℤ) ≤ u) (hu1 : u ≤ 1 - 1 / 16777216) :
    0 < u ∧ 0 < -Real.log u ∧ -200 ≤ -Real.log (-Real.log u) ∧ -Real.log (-Real.log u) ≤ 200 := by
  have ht0 : (0 : ℝ) < (2 : ℝ) ^ (-126 : ℤ) := by positivity
  have hu0 : 0 < u := lt_of_lt_of_le ht0 hlo
  have h2 := log_two_le
  have hlow : -126 ≤ Real.log u := by
    have a := Real.log_le_log ht0 hlo
    rw [Real.log_zpow] at a
    push_cast at a
    linarith
  have hlog : Real.log u ≤ -(1 / 16777216) := by
    have := Real.log_le_sub_one_of_pos hu0
    linarith
  have hneg : 0 < -Real.log u := by linarith
  refine ⟨hu0, hneg, ?_, ?_⟩
  · have := Real.log_le_sub_one_of_pos hneg
    linarith
  · have a : Real.log ((2 : ℝ) ^ (-24 : ℤ)) ≤ Real.log (-Real.log u) := Real.log_le_log (by positivity) (by norm_num at hlog ⊢; linarith)
    rw [Real.log_zpow] at a
    push_cast at a
    linarith

/-- The noise is a real number no further from nought than two hundred. -/
theorem gumbel_bounds (w : BitVec 32) : ∃ g : ℝ, gumbel w = (g : EReal) ∧ -200 ≤ g ∧ g ≤ 200 := by
  obtain ⟨p, hp, h0, h1⟩ := unit_bounds w
  have ht1 : (2 : ℝ) ^ (-126 : ℤ) ≤ 1 / 16777216 := by norm_num
  have hb := loglog_bounds (p + (2 : ℝ) ^ (-126 : ℤ)) (by linarith) (by
    generalize (2 : ℝ) ^ (-126 : ℤ) = τ at ht1 ⊢
    linarith)
  obtain ⟨hu0, hneg, hl, hh⟩ := hb
  refine ⟨-Real.log (-Real.log (p + (2 : ℝ) ^ (-126 : ℤ))), ?_, hl, hh⟩
  unfold gumbel
  rw [hp, bits_tiny, ← EReal.coe_add, Ideal.log_coe, if_neg (not_le.2 hu0), ← EReal.coe_neg, Ideal.log_coe,
    if_neg (not_le.2 hneg), ← EReal.coe_neg]

/-- Bounding the number below by the least positive one, and multiplying it by one, changes nothing. -/
theorem bounded_below (w : BitVec 32) :
    max (Ideal.ofBits .f32 0x00800000#32)
        ((Ideal.ofBits .f32 (unitBits w) - Ideal.ofBits .f32 0x3F800000#32) * Ideal.ofBits .f32 0x3F800000#32 + Ideal.ofBits .f32 0x00800000#32)
      = (Ideal.ofBits .f32 (unitBits w) - Ideal.ofBits .f32 0x3F800000#32) + Ideal.ofBits .f32 0x00800000#32 := by
  obtain ⟨p, hp, h0, -⟩ := unit_bounds w
  rw [hp, bits_one, bits_tiny, EReal.coe_one, mul_one, ← EReal.coe_add]
  exact max_eq_right (EReal.coe_le_coe_iff.2 (by linarith))

/-! ## The distance -/

/-- The two spellings of the negated squared distance, over reals: the kernel's, from entries taken twice, and the reference's. -/
theorem neg_dist (z c : Fin 32 → EReal) (hz : ∀ d, Fin' (z d)) (hc : ∀ d, Fin' (c d)) :
    ((0 - ∑ d, z d * z d) + Ideal.ofBits .f32 0xBE800000#32 * ∑ d, (c d * Ideal.ofBits .f32 0x40000000#32) * (c d * Ideal.ofBits .f32 0x40000000#32))
        + ∑ d, z d * (c d * Ideal.ofBits .f32 0x40000000#32)
      = -(((∑ d, z d * z d) + ∑ d, c d * c d) - Ideal.ofBits .f32 0x40000000#32 * ∑ d, z d * c d) := by
  choose a ha using hz
  choose b hb using hc
  simp only [ha, hb, bits_neg_quarter, bits_two, ← EReal.coe_mul, ← coe_sum, ← EReal.coe_zero, ← EReal.coe_sub, ← EReal.coe_add, ← EReal.coe_neg]
  congr 1
  have e1 : ∑ d, b d * 2 * (b d * 2) = 4 * ∑ d, b d * b d := by rw [Finset.mul_sum]; exact Finset.sum_congr rfl fun d _ => by ring
  have e2 : ∑ d, a d * (b d * 2) = 2 * ∑ d, a d * b d := by rw [Finset.mul_sum]; exact Finset.sum_congr rfl fun d _ => by ring
  rw [e1, e2]; ring

/-- It is real. -/
theorem neg_dist_real (z c : Fin 32 → EReal) (hz : ∀ d, Fin' (z d)) (hc : ∀ d, Fin' (c d)) :
    Fin' (-(((∑ d, z d * z d) + ∑ d, c d * c d) - Ideal.ofBits .f32 0x40000000#32 * ∑ d, z d * c d)) := by
  choose a ha using hz
  choose b hb using hc
  simp only [ha, hb, bits_two, ← EReal.coe_mul, ← coe_sum, ← EReal.coe_sub, ← EReal.coe_add, ← EReal.coe_neg]
  exact Fin'.coe _

/-! ## The largest of a row -/

/-- An entry is the fold of `max` over its row, from minus infinity, when no entry is above it. -/
theorem eq_fold_iff (y : Fin 512 → EReal) (k : Fin 512) : y k = Finset.univ.fold max ⊥ y ↔ ∀ j, y j ≤ y k := by
  constructor
  · intro h j
    rw [h]
    exact (Finset.le_fold_max (y j)).2 (Or.inr ⟨j, Finset.mem_univ j, le_rfl⟩)
  · intro h
    exact le_antisymm ((Finset.le_fold_max (y k)).2 (Or.inr ⟨k, Finset.mem_univ k, le_rfl⟩))
      ((Finset.fold_max_le _).2 ⟨bot_le, fun j _ => h j⟩)

/-- Some entry of a row is its largest. -/
theorem exists_largest (y : Fin 512 → EReal) : ∃ k, y k = Finset.univ.fold max ⊥ y := by
  obtain ⟨k, -, hk⟩ := Finset.exists_max_image Finset.univ y ⟨0, Finset.mem_univ _⟩
  exact ⟨k, (eq_fold_iff y k).2 fun j => hk j (Finset.mem_univ j)⟩

/-- Bounding the logits below at minus a thousand and above at ten, after the row's largest is taken off, changes no row's
    largest noisy logits: the noise is too small to lift a bounded logit to the top. -/
theorem largest_bounded (t : Fin 512 → EReal) (g : Fin 512 → EReal) (ht : ∀ k, Fin' (t k))
    (hg : ∀ k, ∃ r : ℝ, g k = (r : EReal) ∧ -200 ≤ r ∧ r ≤ 200) (k : Fin 512) :
    (g k + min (Ideal.ofBits .f32 0x41200000#32) (max (Ideal.ofBits .f32 0xC47A0000#32) (t k - Finset.univ.fold max ⊥ t))
        = Finset.univ.fold max ⊥ fun j => g j + min (Ideal.ofBits .f32 0x41200000#32) (max (Ideal.ofBits .f32 0xC47A0000#32) (t j - Finset.univ.fold max ⊥ t)))
      ↔ g k + (t k - Finset.univ.fold max ⊥ t) = Finset.univ.fold max ⊥ fun j => g j + (t j - Finset.univ.fold max ⊥ t) := by
  obtain ⟨k0, hk0⟩ := exists_largest t
  have hle := (eq_fold_iff t k0).1 hk0
  rw [← hk0]
  choose a ha using ht
  choose r hr hlo hhi using hg
  have hs : ∀ j, a j - a k0 ≤ 0 := fun j => by
    have := hle j; rw [ha, ha, EReal.coe_le_coe_iff] at this; linarith
  have e1 : ∀ j, g j + min (Ideal.ofBits .f32 0x41200000#32) (max (Ideal.ofBits .f32 0xC47A0000#32) (t j - t k0))
      = ((r j + max (-1000) (a j - a k0) : ℝ) : EReal) := fun j => by
    rw [hr, ha, ha, bits_ten, bits_neg_thousand, ← EReal.coe_sub, EReal.coe_add, ← coe_max]
    congr 1
    exact min_eq_right (EReal.coe_le_coe_iff.2 (max_le (by norm_num) (by linarith [hs j])))
  have e2 : ∀ j, g j + (t j - t k0) = ((r j + (a j - a k0) : ℝ) : EReal) := fun j => by
    rw [hr, ha, ha, ← EReal.coe_sub, ← EReal.coe_add]
  rw [eq_fold_iff (fun j => g j + min (Ideal.ofBits .f32 0x41200000#32) (max (Ideal.ofBits .f32 0xC47A0000#32) (t j - t k0))) k,
    eq_fold_iff (fun j => g j + (t j - t k0)) k]
  simp only [e1, e2, EReal.coe_le_coe_iff]
  constructor
  · intro h j
    have h0 := h k0
    rw [sub_self, max_eq_right (by norm_num : (-1000 : ℝ) ≤ 0)] at h0
    have hk : a k - a k0 ≥ -1000 := by
      by_contra hc
      rw [max_eq_left (by linarith)] at h0
      linarith [hlo k0, hhi k]
    have hj := h j
    rw [max_eq_right (by linarith : (-1000 : ℝ) ≤ a k - a k0)] at hj
    linarith [le_max_right (-1000) (a j - a k0)]
  · intro h j
    have h0 := h k0
    have hk : a k - a k0 ≥ -400 := by linarith [hlo k0, hhi k]
    rw [max_eq_right (by linarith : (-1000 : ℝ) ≤ a k - a k0)]
    rcases le_total (-1000) (a j - a k0) with hj | hj
    · rw [max_eq_right hj]; exact h j
    · rw [max_eq_left hj]; linarith [hhi j, hlo k]

end Cert.Rows
-- ==== Proof.Model.lean ====
module

public import proofs.«01_k».proof.Proof.Rows

@[expose] public section

noncomputable section

namespace Cert.Model

open Idealize.ShloMosaic Cert.Words Cert.Rows

/-- The arguments, each as a function of its coordinates; the mask is already a number. -/
structure Inputs where
  /-- the rows -/
  x : Fin 65536 → Fin 128 → EReal
  /-- the mask -/
  mask : Fin 65536 → EReal
  /-- the first weights -/
  w1 : Fin 128 → Fin 128 → EReal
  /-- the first bias -/
  b1 : Fin 128 → EReal
  /-- the second weights -/
  w2 : Fin 32 → Fin 128 → EReal
  /-- the second bias -/
  b2 : Fin 32 → EReal
  /-- the code book -/
  book : Fin 512 → Fin 32 → EReal

/-- Every argument is real. -/
structure Inputs.Real (A : Inputs) : Prop where
  x : ∀ n f, Fin' (A.x n f)
  mask : ∀ n, Fin' (A.mask n)
  w1 : ∀ h f, Fin' (A.w1 h f)
  b1 : ∀ h, Fin' (A.b1 h)
  w2 : ∀ d h, Fin' (A.w2 d h)
  b2 : ∀ d, Fin' (A.b2 d)
  book : ∀ k d, Fin' (A.book k d)

variable (A : Inputs)

/-- A row's code: two layers, the first cut off below at nought. -/
def code (n : Fin 65536) (d : Fin 32) : EReal :=
  (∑ h : Fin 128, max ((∑ f : Fin 128, A.x n f * A.w1 h f) + A.b1 h) 0 * A.w2 d h) + A.b2 d

/-- The squared distance of a row's code to an entry, the square multiplied out. -/
def dist (n : Fin 65536) (k : Fin 512) : EReal :=
  ((∑ d : Fin 32, code A n d * code A n d) + ∑ d : Fin 32, A.book k d * A.book k d)
    - Ideal.ofBits .f32 0x40000000#32 * ∑ d : Fin 32, code A n d * A.book k d

/-- The logit: the negated distance over the temperature. -/
def logit (n : Fin 65536) (k : Fin 512) : EReal := Ideal.div (-dist A n k) (Ideal.ofBits .f32 0x3DCCCCCD#32)

/-- The logit less the row's largest. -/
def gap (n : Fin 65536) (k : Fin 512) : EReal := logit A n k - Finset.univ.fold max ⊥ (logit A n)

/-- The noise of a row and an entry. -/
def noise (n : Fin 65536) (k : Fin 512) : EReal := gumbel (word (BitVec.ofNat 32 (n.val * 512 + k.val)))

/-- The noisy logit. -/
def noisy (n : Fin 65536) (k : Fin 512) : EReal := noise n k + gap A n k

/-- The noisy logit, the logit bounded first. -/
def noisyBounded (n : Fin 65536) (k : Fin 512) : EReal :=
  noise n k + min (Ideal.ofBits .f32 0x41200000#32) (max (Ideal.ofBits .f32 0xC47A0000#32) (gap A n k))

/-- The encoding: one where the noisy logit is the row's largest. -/
def enc (n : Fin 65536) (k : Fin 512) : EReal := if noisy A n k = Finset.univ.fold max ⊥ (noisy A n) then 1 else 0

/-- The picked entry. -/
def pick (n : Fin 65536) (d : Fin 32) : EReal := ∑ k : Fin 512, enc A n k * A.book k d

/-- The code moved to the picked entry. -/
def moved (n : Fin 65536) (d : Fin 32) : EReal := code A n d + (pick A n d - code A n d)

/-- The squared step from the code to the picked entry. -/
def step (n : Fin 65536) (d : Fin 32) : EReal := (pick A n d - code A n d) * (pick A n d - code A n d)

/-- The number of kept rows. -/
def kept : EReal := ∑ n : Fin 65536, A.mask n

/-- The kept rows' squared steps, summed. -/
def total : EReal := ∑ n : Fin 65536, A.mask n * ∑ d : Fin 32, step A n d

/-- How many kept rows pick an entry. -/
def count (k : Fin 512) : EReal := ∑ n : Fin 65536, A.mask n * enc A n k

/-- The loss. -/
def loss : EReal :=
  Ideal.div (total A) (max (kept A) (Ideal.ofBits .f32 0x3F800000#32) * Ideal.ofBits .f32 0x42000000#32)
    + Ideal.ofBits .f32 0x3F800000#32 * Ideal.div (total A) (max (kept A) (Ideal.ofBits .f32 0x3F800000#32) * Ideal.ofBits .f32 0x42000000#32)

/-- The perplexity. -/
def perplexity : EReal :=
  Ideal.exp (0 - ∑ k : Fin 512, Ideal.div (count A k) (max (kept A) (Ideal.ofBits .f32 0x3F800000#32))
    * Ideal.log (Ideal.div (count A k) (max (kept A) (Ideal.ofBits .f32 0x3F800000#32)) + Ideal.ofBits .f32 0x2EDBE6FF#32))

/-! ## Real arguments give real values -/

variable {A}

/-- Codes are real. -/
theorem code_real (hA : A.Real) (n : Fin 65536) (d : Fin 32) : Fin' (code A n d) :=
  Fin'.add (Fin'.sum _ fun h => Fin'.mul (Fin'.max (Fin'.add (Fin'.sum _ fun f => Fin'.mul (hA.x n f) (hA.w1 h f)) (hA.b1 h)) Fin'.zero) (hA.w2 d h)) (hA.b2 d)

/-- Encodings are real. -/
theorem enc_real (n : Fin 65536) (k : Fin 512) : Fin' (enc A n k) := by
  unfold enc
  split
  · exact ⟨1, rfl⟩
  · exact Fin'.zero

/-- Picked entries are real. -/
theorem pick_real (hA : A.Real) (n : Fin 65536) (d : Fin 32) : Fin' (pick A n d) :=
  Fin'.sum _ fun k => Fin'.mul (enc_real n k) (hA.book k d)

/-- A difference of reals is real. -/
theorem sub_real {x y : EReal} (hx : Fin' x) (hy : Fin' y) : Fin' (x - y) := by
  obtain ⟨a, rfl⟩ := hx; obtain ⟨b, rfl⟩ := hy; exact ⟨a - b, (EReal.coe_sub a b).symm⟩

/-- Squared steps are real. -/
theorem step_real (hA : A.Real) (n : Fin 65536) (d : Fin 32) : Fin' (step A n d) :=
  Fin'.mul (sub_real (pick_real hA n d) (code_real hA n d)) (sub_real (pick_real hA n d) (code_real hA n d))

/-- Logits are real. -/
theorem logit_real (hA : A.Real) (n : Fin 65536) (k : Fin 512) : Fin' (logit A n k) := by
  have h : Fin' (-dist A n k) := neg_dist_real (code A n) (A.book k) (code_real hA n) (hA.book k)
  unfold logit
  rw [bits_tenth, Ideal.div_coe (by norm_num)]
  exact Fin'.mul h (Fin'.coe _)

/-- The kernel's form of the negated distance, from the code and the doubled entries. -/
theorem kernel_dist (hA : A.Real) (n : Fin 65536) (k : Fin 512) :
    ((0 - ∑ d, code A n d * code A n d) + Ideal.ofBits .f32 0xBE800000#32 * ∑ d, (A.book k d * Ideal.ofBits .f32 0x40000000#32) * (A.book k d * Ideal.ofBits .f32 0x40000000#32))
        + ∑ d, code A n d * (A.book k d * Ideal.ofBits .f32 0x40000000#32)
      = -dist A n k :=
  neg_dist (code A n) (A.book k) (code_real hA n) (hA.book k)

/-- Bounding the logits changes no row's largest noisy logits. -/
theorem bounded_largest (hA : A.Real) (n : Fin 65536) (k : Fin 512) :
    noisyBounded A n k = Finset.univ.fold max ⊥ (noisyBounded A n) ↔ noisy A n k = Finset.univ.fold max ⊥ (noisy A n) :=
  largest_bounded (logit A n) (noise n) (logit_real hA n) (fun k => gumbel_bounds _) k

/-- A real times a sum of reals is the sum of the products, the factor on either side. -/
theorem mul_sum_real (a : EReal) (v : Fin 32 → EReal) (ha : Fin' a) (hv : ∀ d, Fin' (v d)) : ∑ d, v d * a = a * ∑ d, v d := by
  obtain ⟨p, rfl⟩ := ha
  choose q hq using hv
  simp only [hq, ← EReal.coe_mul, ← coe_sum]
  rw [← Finset.sum_mul, mul_comm]

/-- The loss's sum over rows and coordinates at once. -/
theorem total_eq (hA : A.Real) : ∑ n : Fin 65536, ∑ d : Fin 32, step A n d * A.mask n = total A :=
  Finset.sum_congr rfl fun n _ => mul_sum_real (A.mask n) (step A n) (hA.mask n) (step_real hA n)

end Cert.Model
-- ==== Proof.Blocks.lean ====
module

public import proofs.«01_k».proof.Proof.Gen.KernelIdeal.Value
public import Idealize.ShloMosaic.Lib.Pointwise

@[expose] public section

noncomputable section

namespace Cert.KernelIdeal.Blocks

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (c : Dev nD)

/-- The array's row that a block's row is. -/
def row (t : Fin cfg0.N) (r : Fin 2048) : Fin 65536 :=
  ⟨2048 * t.val + r.val, by
    have h1 : t.val < 32 := lt_of_lt_of_eq t.isLt (show cfg0.N = 32 from N_0)
    have h2 := r.isLt
    omega⟩

/-- Which block of window 0 a point takes: the one of its own number, along the rows. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- A block of `x`, at a row and a feature. -/
theorem block0 (t : Fin cfg0.N) (r : Fin 2048) (k : Fin 128) :
    (iblk m c 0 t : Vec F S2048x128 .f32) (ix2 r k) = (V m c main_arg0 : Vec F S65536x128 .f32) (ix2 (row t r) k) := by
  obtain ⟨h0, h1⟩ := index0 t
  unfold iblk
  rw [View.read_apply]
  show V m c main_arg0 _ = V m c main_arg0 _
  congr 1
  funext a
  apply Fin.ext
  match a with
  | ⟨0, _⟩ => show win0_0.index t (0 : Fin 2) * 2048 + 1 * r.val = 2048 * t.val + r.val; rw [h0] <;> omega
  | ⟨1, _⟩ => show win0_0.index t (1 : Fin 2) * 128 + 1 * k.val = k.val; rw [h1] <;> omega

/-- Which block of window 1 a point takes: the one of its own number, along the columns. -/
theorem index1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)

/-- A block of the mask, at a row. -/
theorem block1 (t : Fin cfg0.N) (r : Fin 2048) :
    (iblk m c 1 t : Vec F S1x2048 .f32) (ix2 0 r) = (V m c main_v1 : Vec F S1x65536 .f32) (ix2 0 (row t r)) := by
  obtain ⟨h0, h1⟩ := index1 t
  unfold iblk
  rw [View.read_apply]
  show V m c main_v1 _ = V m c main_v1 _
  congr 1
  funext a
  apply Fin.ext
  match a with
  | ⟨0, _⟩ => show win0_1.index t (0 : Fin 2) * 1 + 1 * 0 = 0; rw [h0] <;> omega
  | ⟨1, _⟩ => show win0_1.index t (1 : Fin 2) * 2048 + 1 * r.val = 2048 * t.val + r.val; rw [h1] <;> omega

/-- Which block of window 2 a point takes: the one of its own number, along the rows. -/
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- A block of the noise, at a row and an entry. -/
theorem block2 (t : Fin cfg0.N) (r : Fin 2048) (k : Fin 512) :
    (iblk m c 2 t : Vec F S2048x512 .f32) (ix2 r k) = (V m c main_v185 : Vec F S65536x512 .f32) (ix2 (row t r) k) := by
  obtain ⟨h0, h1⟩ := index2 t
  unfold iblk
  rw [View.read_apply]
  show V m c main_v185 _ = V m c main_v185 _
  congr 1
  funext a
  apply Fin.ext
  match a with
  | ⟨0, _⟩ => show win0_2.index t (0 : Fin 2) * 2048 + 1 * r.val = 2048 * t.val + r.val; rw [h0] <;> omega
  | ⟨1, _⟩ => show win0_2.index t (1 : Fin 2) * 512 + 1 * k.val = k.val; rw [h1] <;> omega

/-- Which block of window 3 a point takes: always the whole array. -/
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The first weights. Every block of it is the whole array. -/
theorem block3 (t : Fin cfg0.N) (j : S128x128.Idx) :
    (iblk m c 3 t : Vec F S128x128 .f32) j = (V m c main_arg2 : Vec F S128x128 .f32) j := by
  obtain ⟨h0, h1⟩ := index3 t
  unfold iblk
  rw [View.read_apply]
  show V m c main_arg2 _ = V m c main_arg2 _
  congr 1
  funext a
  apply Fin.ext
  match a with
  | ⟨0, _⟩ => show win0_3.index t (0 : Fin 2) * 128 + 1 * (j 0).val = (j 0).val; rw [h0] <;> omega
  | ⟨1, _⟩ => show win0_3.index t (1 : Fin 2) * 128 + 1 * (j 1).val = (j 1).val; rw [h1] <;> omega

/-- Which block of window 4 a point takes: always the whole array. -/
theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- The first bias. Every block of it is the whole array. -/
theorem block4 (t : Fin cfg0.N) (j : S1x128.Idx) :
    (iblk m c 4 t : Vec F S1x128 .f32) j = (V m c main_v5 : Vec F S1x128 .f32) j := by
  obtain ⟨h0, h1⟩ := index4 t
  unfold iblk
  rw [View.read_apply]
  show V m c main_v5 _ = V m c main_v5 _
  congr 1
  funext a
  apply Fin.ext
  match a with
  | ⟨0, _⟩ => show win0_4.index t (0 : Fin 2) * 1 + 1 * (j 0).val = (j 0).val; rw [h0] <;> omega
  | ⟨1, _⟩ => show win0_4.index t (1 : Fin 2) * 128 + 1 * (j 1).val = (j 1).val; rw [h1] <;> omega

/-- Which block of window 5 a point takes: always the whole array. -/
theorem index5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- The second weights. Every block of it is the whole array. -/
theorem block5 (t : Fin cfg0.N) (j : S32x128.Idx) :
    (iblk m c 5 t : Vec F S32x128 .f32) j = (V m c main_arg4 : Vec F S32x128 .f32) j := by
  obtain ⟨h0, h1⟩ := index5 t
  unfold iblk
  rw [View.read_apply]
  show V m c main_arg4 _ = V m c main_arg4 _
  congr 1
  funext a
  apply Fin.ext
  match a with
  | ⟨0, _⟩ => show win0_5.index t (0 : Fin 2) * 32 + 1 * (j 0).val = (j 0).val; rw [h0] <;> omega
  | ⟨1, _⟩ => show win0_5.index t (1 : Fin 2) * 128 + 1 * (j 1).val = (j 1).val; rw [h1] <;> omega

/-- Which block of window 6 a point takes: always the whole array. -/
theorem index6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- The second bias. Every block of it is the whole array. -/
theorem block6 (t : Fin cfg0.N) (j : S1x32.Idx) :
    (iblk m c 6 t : Vec F S1x32 .f32) j = (V m c main_v6 : Vec F S1x32 .f32) j := by
  obtain ⟨h0, h1⟩ := index6 t
  unfold iblk
  rw [View.read_apply]
  show V m c main_v6 _ = V m c main_v6 _
  congr 1
  funext a
  apply Fin.ext
  match a with
  | ⟨0, _⟩ => show win0_6.index t (0 : Fin 2) * 1 + 1 * (j 0).val = (j 0).val; rw [h0] <;> omega
  | ⟨1, _⟩ => show win0_6.index t (1 : Fin 2) * 32 + 1 * (j 1).val = (j 1).val; rw [h1] <;> omega

/-- Which block of window 7 a point takes: always the whole array. -/
theorem index7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- The code book. Every block of it is the whole array. -/
theorem block7 (t : Fin cfg0.N) (j : S512x32.Idx) :
    (iblk m c 7 t : Vec F S512x32 .f32) j = (V m c main_arg6 : Vec F S512x32 .f32) j := by
  obtain ⟨h0, h1⟩ := index7 t
  unfold iblk
  rw [View.read_apply]
  show V m c main_arg6 _ = V m c main_arg6 _
  congr 1
  funext a
  apply Fin.ext
  match a with
  | ⟨0, _⟩ => show win0_7.index t (0 : Fin 2) * 512 + 1 * (j 0).val = (j 0).val; rw [h0] <;> omega
  | ⟨1, _⟩ => show win0_7.index t (1 : Fin 2) * 32 + 1 * (j 1).val = (j 1).val; rw [h1] <;> omega

/-- Which block of window 8 a point takes: always the whole array. -/
theorem index8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- The doubled, transposed code book. Every block of it is the whole array. -/
theorem block8 (t : Fin cfg0.N) (j : S32x512.Idx) :
    (iblk m c 8 t : Vec F S32x512 .f32) j = (V m c main_v4 : Vec F S32x512 .f32) j := by
  obtain ⟨h0, h1⟩ := index8 t
  unfold iblk
  rw [View.read_apply]
  show V m c main_v4 _ = V m c main_v4 _
  congr 1
  funext a
  apply Fin.ext
  match a with
  | ⟨0, _⟩ => show win0_8.index t (0 : Fin 2) * 32 + 1 * (j 0).val = (j 0).val; rw [h0] <;> omega
  | ⟨1, _⟩ => show win0_8.index t (1 : Fin 2) * 512 + 1 * (j 1).val = (j 1).val; rw [h1] <;> omega

end Cert.KernelIdeal.Blocks
-- ==== Proof.CaseA.lean ====
module

public import proofs.«01_k».proof.Proof.Gen.KernelIdeal.Frame
public import Idealize.ShloMosaic.Lib.Pipeline.Value

@[expose] public section

noncomputable section

namespace Cert.KernelIdeal.CaseA

open Idealize.ShloMosaic Idealize.ShloMosaic.TcCoe Idealize.SL.Sem
open Cert.KernelIdeal Cert.KernelIdeal.Gen

variable {F : FTy → Type} [FloatOps F]

/-- The zero offset of two axes. -/
theorem hz : (![0, 0] : Fin 2 → Nat) = fun _ => 0 := funext fun a => by fin_cases a <;> rfl

variable (c : Dev nD) (i : grid0.Coords)
  (a1 : Memref sig .tc .vmem S2048x128 .f32) (h1 : a1.IsWhole)
  (a2 : Memref sig .tc .vmem S1x2048 .f32) (h2 : a2.IsWhole)
  (a3 : Memref sig .tc .vmem S2048x512 .f32) (h3 : a3.IsWhole)
  (a4 : Memref sig .tc .vmem S128x128 .f32) (h4 : a4.IsWhole)
  (a5 : Memref sig .tc .vmem S1x128 .f32) (h5 : a5.IsWhole)
  (a6 : Memref sig .tc .vmem S32x128 .f32) (h6 : a6.IsWhole)
  (a7 : Memref sig .tc .vmem S1x32 .f32) (h7 : a7.IsWhole)
  (a8 : Memref sig .tc .vmem S512x32 .f32) (h8 : a8.IsWhole)
  (a9 : Memref sig .tc .vmem S32x512 .f32) (h9 : a9.IsWhole)
  (a10 : Memref sig .tc .vmem S1x1 .f32) (h10 : a10.IsWhole)
  (a11 : Memref sig .tc .vmem S2048x32 .f32) (h11 : a11.IsWhole)
  (a12 : Memref sig .tc .vmem S1x1 .f32) (h12 : a12.IsWhole)
  (a13 : Memref sig .tc .vmem S2048x512 .f32) (h13 : a13.IsWhole)
  (a14 : Memref sig .tc .vmem S2048x512 .f32) (h14 : a14.IsWhole)
  (a15 : Memref sig .tc .vmem S1x1 .f32) (h15 : a15.IsWhole)
  (a16 : Memref sig .tc .vmem S1x1 .f32) (h16 : a16.IsWhole)
  (a17 : Memref sig .tc .vmem S1x512 .f32) (h17 : a17.IsWhole)
  (hc0 : cond0_0 i) (hc1 : ¬cond0_1 i)
  (x0 : Vec F S2048x128 .f32) (x1 : Vec F S1x2048 .f32) (x2 : Vec F S2048x512 .f32) (x3 : Vec F S128x128 .f32) (x4 : Vec F S1x128 .f32) (x5 : Vec F S32x128 .f32) (x6 : Vec F S1x32 .f32) (x7 : Vec F S512x32 .f32) (x8 : Vec F S32x512 .f32)

/-- The codes' block a point writes. -/
theorem out10 : out0_A_10 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8
    = k0_pay13 (k0_pay9 x0 x3 x4 x5 x6) (k0_pay10 x0 x3 x4 x5 x6 x8) x2 x7 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8)]
  unfold kernelRun0_A
  dsimp only
  sl_unfold_words
  rw [View.canon_cons_unit_zero (S := S2048x32) hz]
  simp only [View.readAt_eq_ld, h1.read_unread, h2.read_unread, h3.read_unread, h4.read_unread, h5.read_unread, h6.read_unread,
    h7.read_unread, h8.read_unread, h9.read_unread, View.ld_unit_zero (S := S2048x128) hz,
    View.ld_unit_zero (S := S1x2048) hz, View.ld_unit_zero (S := S2048x512) hz, View.ld_unit_zero (S := S128x128) hz,
    View.ld_unit_zero (S := S1x128) hz, View.ld_unit_zero (S := S32x128) hz, View.ld_unit_zero (S := S1x32) hz,
    View.ld_unit_zero (S := S512x32) hz, View.ld_unit_zero (S := S32x512) hz, View.ld_unit_zero (S := S1x1) hz,
    View.ld_unit_zero (S := S1x512) hz, View.readCov_unit_zero (S := S1x1) _ hz, View.readCov_unit_zero (S := S1x512) _ hz]

/-- The encodings' block a point writes. -/
theorem out12 : out0_A_12 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8
    = k0_pay11 (k0_pay10 x0 x3 x4 x5 x6 x8) x2 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8)]
  unfold kernelRun0_A
  dsimp only
  sl_unfold_words
  rw [View.canon_cons_unit_zero (S := S2048x512) hz]
  simp only [View.readAt_eq_ld, h1.read_unread, h2.read_unread, h3.read_unread, h4.read_unread, h5.read_unread, h6.read_unread,
    h7.read_unread, h8.read_unread, h9.read_unread, View.ld_unit_zero (S := S2048x128) hz,
    View.ld_unit_zero (S := S1x2048) hz, View.ld_unit_zero (S := S2048x512) hz, View.ld_unit_zero (S := S128x128) hz,
    View.ld_unit_zero (S := S1x128) hz, View.ld_unit_zero (S := S32x128) hz, View.ld_unit_zero (S := S1x32) hz,
    View.ld_unit_zero (S := S512x32) hz, View.ld_unit_zero (S := S32x512) hz, View.ld_unit_zero (S := S1x1) hz,
    View.ld_unit_zero (S := S1x512) hz, View.readCov_unit_zero (S := S1x1) _ hz, View.readCov_unit_zero (S := S1x512) _ hz]

/-- The distances' block a point writes. -/
theorem out13 : out0_A_13 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8
    = (k0_pay10 x0 x3 x4 x5 x6 x8) := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8)]
  unfold kernelRun0_A
  dsimp only
  sl_unfold_words
  rw [View.canon_cons_unit_zero (S := S2048x512) hz]
  simp only [View.readAt_eq_ld, h1.read_unread, h2.read_unread, h3.read_unread, h4.read_unread, h5.read_unread, h6.read_unread,
    h7.read_unread, h8.read_unread, h9.read_unread, View.ld_unit_zero (S := S2048x128) hz,
    View.ld_unit_zero (S := S1x2048) hz, View.ld_unit_zero (S := S2048x512) hz, View.ld_unit_zero (S := S128x128) hz,
    View.ld_unit_zero (S := S1x128) hz, View.ld_unit_zero (S := S32x128) hz, View.ld_unit_zero (S := S1x32) hz,
    View.ld_unit_zero (S := S512x32) hz, View.ld_unit_zero (S := S32x512) hz, View.ld_unit_zero (S := S1x1) hz,
    View.ld_unit_zero (S := S1x512) hz, View.readCov_unit_zero (S := S1x1) _ hz, View.readCov_unit_zero (S := S1x512) _ hz]

/-- The count of kept rows a point leaves. -/
theorem cnt : sout0_A_0 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8
    = k0_pay15 x1 k0_pay6 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8)]
  unfold kernelRun0_A
  dsimp only
  sl_unfold_words
  rw [View.canon_cons_unit_zero (S := S1x1) hz]
  simp only [View.readAt_eq_ld, h1.read_unread, h2.read_unread, h3.read_unread, h4.read_unread, h5.read_unread, h6.read_unread,
    h7.read_unread, h8.read_unread, h9.read_unread, View.ld_unit_zero (S := S2048x128) hz,
    View.ld_unit_zero (S := S1x2048) hz, View.ld_unit_zero (S := S2048x512) hz, View.ld_unit_zero (S := S128x128) hz,
    View.ld_unit_zero (S := S1x128) hz, View.ld_unit_zero (S := S32x128) hz, View.ld_unit_zero (S := S1x32) hz,
    View.ld_unit_zero (S := S512x32) hz, View.ld_unit_zero (S := S32x512) hz, View.ld_unit_zero (S := S1x1) hz,
    View.ld_unit_zero (S := S1x512) hz, View.readCov_unit_zero (S := S1x1) _ hz, View.readCov_unit_zero (S := S1x512) _ hz]

/-- The sum of squared steps a point leaves. -/
theorem loss : sout0_A_1 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8
    = k0_pay1 (k0_pay14 x1) (k0_pay16 (k0_pay9 x0 x3 x4 x5 x6) (k0_pay10 x0 x3 x4 x5 x6 x8) x2 x7) k0_pay7 := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8)]
  unfold kernelRun0_A
  dsimp only
  sl_unfold_words
  rw [View.canon_cons_unit_zero (S := S1x1) hz]
  simp only [View.readAt_eq_ld, h1.read_unread, h2.read_unread, h3.read_unread, h4.read_unread, h5.read_unread, h6.read_unread,
    h7.read_unread, h8.read_unread, h9.read_unread, View.ld_unit_zero (S := S2048x128) hz,
    View.ld_unit_zero (S := S1x2048) hz, View.ld_unit_zero (S := S2048x512) hz, View.ld_unit_zero (S := S128x128) hz,
    View.ld_unit_zero (S := S1x128) hz, View.ld_unit_zero (S := S32x128) hz, View.ld_unit_zero (S := S1x32) hz,
    View.ld_unit_zero (S := S512x32) hz, View.ld_unit_zero (S := S32x512) hz, View.ld_unit_zero (S := S1x1) hz,
    View.ld_unit_zero (S := S1x512) hz, View.readCov_unit_zero (S := S1x1) _ hz, View.readCov_unit_zero (S := S1x512) _ hz]

/-- The entries' counts a point leaves. -/
theorem counts : sout0_A_2 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8
    = k0_pay2 (k0_pay11 (k0_pay10 x0 x3 x4 x5 x6 x8) x2) (k0_pay14 x1) k0_pay8 := by
  unfold sout0_A_2
  rw [View.read_writes_eq_canon _ _ _ (scover0_A_2 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8)]
  unfold kernelRun0_A
  dsimp only
  sl_unfold_words
  rw [View.canon_cons_unit_zero (S := S1x512) hz]
  simp only [View.readAt_eq_ld, h1.read_unread, h2.read_unread, h3.read_unread, h4.read_unread, h5.read_unread, h6.read_unread,
    h7.read_unread, h8.read_unread, h9.read_unread, View.ld_unit_zero (S := S2048x128) hz,
    View.ld_unit_zero (S := S1x2048) hz, View.ld_unit_zero (S := S2048x512) hz, View.ld_unit_zero (S := S128x128) hz,
    View.ld_unit_zero (S := S1x128) hz, View.ld_unit_zero (S := S32x128) hz, View.ld_unit_zero (S := S1x32) hz,
    View.ld_unit_zero (S := S512x32) hz, View.ld_unit_zero (S := S32x512) hz, View.ld_unit_zero (S := S1x1) hz,
    View.ld_unit_zero (S := S1x512) hz, View.readCov_unit_zero (S := S1x1) _ hz, View.readCov_unit_zero (S := S1x512) _ hz]

end Cert.KernelIdeal.CaseA
-- ==== Proof.CaseB.lean ====
module

public import proofs.«01_k».proof.Proof.Gen.KernelIdeal.Frame
public import Idealize.ShloMosaic.Lib.Pipeline.Value

@[expose] public section

noncomputable section

namespace Cert.KernelIdeal.CaseB

open Idealize.ShloMosaic Idealize.ShloMosaic.TcCoe Idealize.SL.Sem
open Cert.KernelIdeal Cert.KernelIdeal.Gen

variable {F : FTy → Type} [FloatOps F]

/-- The zero offset of two axes. -/
theorem hz : (![0, 0] : Fin 2 → Nat) = fun _ => 0 := funext fun a => by fin_cases a <;> rfl

variable (c : Dev nD) (i : grid0.Coords)
  (a1 : Memref sig .tc .vmem S2048x128 .f32) (h1 : a1.IsWhole)
  (a2 : Memref sig .tc .vmem S1x2048 .f32) (h2 : a2.IsWhole)
  (a3 : Memref sig .tc .vmem S2048x512 .f32) (h3 : a3.IsWhole)
  (a4 : Memref sig .tc .vmem S128x128 .f32) (h4 : a4.IsWhole)
  (a5 : Memref sig .tc .vmem S1x128 .f32) (h5 : a5.IsWhole)
  (a6 : Memref sig .tc .vmem S32x128 .f32) (h6 : a6.IsWhole)
  (a7 : Memref sig .tc .vmem S1x32 .f32) (h7 : a7.IsWhole)
  (a8 : Memref sig .tc .vmem S512x32 .f32) (h8 : a8.IsWhole)
  (a9 : Memref sig .tc .vmem S32x512 .f32) (h9 : a9.IsWhole)
  (a10 : Memref sig .tc .vmem S1x1 .f32) (h10 : a10.IsWhole)
  (a11 : Memref sig .tc .vmem S2048x32 .f32) (h11 : a11.IsWhole)
  (a12 : Memref sig .tc .vmem S1x1 .f32) (h12 : a12.IsWhole)
  (a13 : Memref sig .tc .vmem S2048x512 .f32) (h13 : a13.IsWhole)
  (a14 : Memref sig .tc .vmem S2048x512 .f32) (h14 : a14.IsWhole)
  (a15 : Memref sig .tc .vmem S1x1 .f32) (h15 : a15.IsWhole)
  (a16 : Memref sig .tc .vmem S1x1 .f32) (h16 : a16.IsWhole)
  (a17 : Memref sig .tc .vmem S1x512 .f32) (h17 : a17.IsWhole)
  (hc0 : ¬cond0_0 i) (hc1 : ¬cond0_1 i)
  (x0 : Vec F S2048x128 .f32) (x1 : Vec F S1x2048 .f32) (x2 : Vec F S2048x512 .f32) (x3 : Vec F S128x128 .f32) (x4 : Vec F S1x128 .f32) (x5 : Vec F S32x128 .f32) (x6 : Vec F S1x32 .f32) (x7 : Vec F S512x32 .f32) (x8 : Vec F S32x512 .f32)
  (xs0 : Vec F S1x1 .f32) (xs1 : Vec F S1x1 .f32) (xs2 : Vec F S1x512 .f32)

/-- The codes' block a point writes. -/
theorem out10 : out0_B_10 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2
    = k0_pay13 (k0_pay9 x0 x3 x4 x5 x6) (k0_pay10 x0 x3 x4 x5 x6 x8) x2 x7 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2)]
  unfold kernelRun0_B
  dsimp only
  sl_unfold_words
  rw [View.canon_cons_unit_zero (S := S2048x32) hz]
  simp only [View.readAt_eq_ld, h1.read_unread, h2.read_unread, h3.read_unread, h4.read_unread, h5.read_unread, h6.read_unread,
    h7.read_unread, h8.read_unread, h9.read_unread, h15.read_unread, h16.read_unread, h17.read_unread, View.ld_unit_zero (S := S2048x128) hz,
    View.ld_unit_zero (S := S1x2048) hz, View.ld_unit_zero (S := S2048x512) hz, View.ld_unit_zero (S := S128x128) hz,
    View.ld_unit_zero (S := S1x128) hz, View.ld_unit_zero (S := S32x128) hz, View.ld_unit_zero (S := S1x32) hz,
    View.ld_unit_zero (S := S512x32) hz, View.ld_unit_zero (S := S32x512) hz, View.ld_unit_zero (S := S1x1) hz,
    View.ld_unit_zero (S := S1x512) hz, View.readCov_unit_zero (S := S1x1) _ hz, View.readCov_unit_zero (S := S1x512) _ hz]

/-- The encodings' block a point writes. -/
theorem out12 : out0_B_12 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2
    = k0_pay11 (k0_pay10 x0 x3 x4 x5 x6 x8) x2 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2)]
  unfold kernelRun0_B
  dsimp only
  sl_unfold_words
  rw [View.canon_cons_unit_zero (S := S2048x512) hz]
  simp only [View.readAt_eq_ld, h1.read_unread, h2.read_unread, h3.read_unread, h4.read_unread, h5.read_unread, h6.read_unread,
    h7.read_unread, h8.read_unread, h9.read_unread, h15.read_unread, h16.read_unread, h17.read_unread, View.ld_unit_zero (S := S2048x128) hz,
    View.ld_unit_zero (S := S1x2048) hz, View.ld_unit_zero (S := S2048x512) hz, View.ld_unit_zero (S := S128x128) hz,
    View.ld_unit_zero (S := S1x128) hz, View.ld_unit_zero (S := S32x128) hz, View.ld_unit_zero (S := S1x32) hz,
    View.ld_unit_zero (S := S512x32) hz, View.ld_unit_zero (S := S32x512) hz, View.ld_unit_zero (S := S1x1) hz,
    View.ld_unit_zero (S := S1x512) hz, View.readCov_unit_zero (S := S1x1) _ hz, View.readCov_unit_zero (S := S1x512) _ hz]

/-- The distances' block a point writes. -/
theorem out13 : out0_B_13 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2
    = (k0_pay10 x0 x3 x4 x5 x6 x8) := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2)]
  unfold kernelRun0_B
  dsimp only
  sl_unfold_words
  rw [View.canon_cons_unit_zero (S := S2048x512) hz]
  simp only [View.readAt_eq_ld, h1.read_unread, h2.read_unread, h3.read_unread, h4.read_unread, h5.read_unread, h6.read_unread,
    h7.read_unread, h8.read_unread, h9.read_unread, h15.read_unread, h16.read_unread, h17.read_unread, View.ld_unit_zero (S := S2048x128) hz,
    View.ld_unit_zero (S := S1x2048) hz, View.ld_unit_zero (S := S2048x512) hz, View.ld_unit_zero (S := S128x128) hz,
    View.ld_unit_zero (S := S1x128) hz, View.ld_unit_zero (S := S32x128) hz, View.ld_unit_zero (S := S1x32) hz,
    View.ld_unit_zero (S := S512x32) hz, View.ld_unit_zero (S := S32x512) hz, View.ld_unit_zero (S := S1x1) hz,
    View.ld_unit_zero (S := S1x512) hz, View.readCov_unit_zero (S := S1x1) _ hz, View.readCov_unit_zero (S := S1x512) _ hz]

/-- The count of kept rows a point leaves. -/
theorem cnt : sout0_B_0 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2
    = k0_pay15 x1 xs0 := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2)]
  unfold kernelRun0_B
  dsimp only
  sl_unfold_words
  rw [View.canon_cons_unit_zero (S := S1x1) hz]
  simp only [View.readAt_eq_ld, h1.read_unread, h2.read_unread, h3.read_unread, h4.read_unread, h5.read_unread, h6.read_unread,
    h7.read_unread, h8.read_unread, h9.read_unread, h15.read_unread, h16.read_unread, h17.read_unread, View.ld_unit_zero (S := S2048x128) hz,
    View.ld_unit_zero (S := S1x2048) hz, View.ld_unit_zero (S := S2048x512) hz, View.ld_unit_zero (S := S128x128) hz,
    View.ld_unit_zero (S := S1x128) hz, View.ld_unit_zero (S := S32x128) hz, View.ld_unit_zero (S := S1x32) hz,
    View.ld_unit_zero (S := S512x32) hz, View.ld_unit_zero (S := S32x512) hz, View.ld_unit_zero (S := S1x1) hz,
    View.ld_unit_zero (S := S1x512) hz, View.readCov_unit_zero (S := S1x1) _ hz, View.readCov_unit_zero (S := S1x512) _ hz]

/-- The sum of squared steps a point leaves. -/
theorem loss : sout0_B_1 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2
    = k0_pay1 (k0_pay14 x1) (k0_pay16 (k0_pay9 x0 x3 x4 x5 x6) (k0_pay10 x0 x3 x4 x5 x6 x8) x2 x7) xs1 := by
  unfold sout0_B_1
  rw [View.read_writes_eq_canon _ _ _ (scover0_B_1 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2)]
  unfold kernelRun0_B
  dsimp only
  sl_unfold_words
  rw [View.canon_cons_unit_zero (S := S1x1) hz]
  simp only [View.readAt_eq_ld, h1.read_unread, h2.read_unread, h3.read_unread, h4.read_unread, h5.read_unread, h6.read_unread,
    h7.read_unread, h8.read_unread, h9.read_unread, h15.read_unread, h16.read_unread, h17.read_unread, View.ld_unit_zero (S := S2048x128) hz,
    View.ld_unit_zero (S := S1x2048) hz, View.ld_unit_zero (S := S2048x512) hz, View.ld_unit_zero (S := S128x128) hz,
    View.ld_unit_zero (S := S1x128) hz, View.ld_unit_zero (S := S32x128) hz, View.ld_unit_zero (S := S1x32) hz,
    View.ld_unit_zero (S := S512x32) hz, View.ld_unit_zero (S := S32x512) hz, View.ld_unit_zero (S := S1x1) hz,
    View.ld_unit_zero (S := S1x512) hz, View.readCov_unit_zero (S := S1x1) _ hz, View.readCov_unit_zero (S := S1x512) _ hz]

/-- The entries' counts a point leaves. -/
theorem counts : sout0_B_2 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2
    = k0_pay2 (k0_pay11 (k0_pay10 x0 x3 x4 x5 x6 x8) x2) (k0_pay14 x1) xs2 := by
  unfold sout0_B_2
  rw [View.read_writes_eq_canon _ _ _ (scover0_B_2 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2)]
  unfold kernelRun0_B
  dsimp only
  sl_unfold_words
  rw [View.canon_cons_unit_zero (S := S1x512) hz]
  simp only [View.readAt_eq_ld, h1.read_unread, h2.read_unread, h3.read_unread, h4.read_unread, h5.read_unread, h6.read_unread,
    h7.read_unread, h8.read_unread, h9.read_unread, h15.read_unread, h16.read_unread, h17.read_unread, View.ld_unit_zero (S := S2048x128) hz,
    View.ld_unit_zero (S := S1x2048) hz, View.ld_unit_zero (S := S2048x512) hz, View.ld_unit_zero (S := S128x128) hz,
    View.ld_unit_zero (S := S1x128) hz, View.ld_unit_zero (S := S32x128) hz, View.ld_unit_zero (S := S1x32) hz,
    View.ld_unit_zero (S := S512x32) hz, View.ld_unit_zero (S := S32x512) hz, View.ld_unit_zero (S := S1x1) hz,
    View.ld_unit_zero (S := S1x512) hz, View.readCov_unit_zero (S := S1x1) _ hz, View.readCov_unit_zero (S := S1x512) _ hz]

end Cert.KernelIdeal.CaseB
-- ==== Proof.CaseC.lean ====
module

public import proofs.«01_k».proof.Proof.Gen.KernelIdeal.Frame
public import Idealize.ShloMosaic.Lib.Pipeline.Value

@[expose] public section

noncomputable section

namespace Cert.KernelIdeal.CaseC

open Idealize.ShloMosaic Idealize.ShloMosaic.TcCoe Idealize.SL.Sem
open Cert.KernelIdeal Cert.KernelIdeal.Gen

variable {F : FTy → Type} [FloatOps F]

/-- The zero offset of two axes. -/
theorem hz : (![0, 0] : Fin 2 → Nat) = fun _ => 0 := funext fun a => by fin_cases a <;> rfl

variable (c : Dev nD) (i : grid0.Coords)
  (a1 : Memref sig .tc .vmem S2048x128 .f32) (h1 : a1.IsWhole)
  (a2 : Memref sig .tc .vmem S1x2048 .f32) (h2 : a2.IsWhole)
  (a3 : Memref sig .tc .vmem S2048x512 .f32) (h3 : a3.IsWhole)
  (a4 : Memref sig .tc .vmem S128x128 .f32) (h4 : a4.IsWhole)
  (a5 : Memref sig .tc .vmem S1x128 .f32) (h5 : a5.IsWhole)
  (a6 : Memref sig .tc .vmem S32x128 .f32) (h6 : a6.IsWhole)
  (a7 : Memref sig .tc .vmem S1x32 .f32) (h7 : a7.IsWhole)
  (a8 : Memref sig .tc .vmem S512x32 .f32) (h8 : a8.IsWhole)
  (a9 : Memref sig .tc .vmem S32x512 .f32) (h9 : a9.IsWhole)
  (a10 : Memref sig .tc .vmem S1x1 .f32) (h10 : a10.IsWhole)
  (a11 : Memref sig .tc .vmem S2048x32 .f32) (h11 : a11.IsWhole)
  (a12 : Memref sig .tc .vmem S1x1 .f32) (h12 : a12.IsWhole)
  (a13 : Memref sig .tc .vmem S2048x512 .f32) (h13 : a13.IsWhole)
  (a14 : Memref sig .tc .vmem S2048x512 .f32) (h14 : a14.IsWhole)
  (a15 : Memref sig .tc .vmem S1x1 .f32) (h15 : a15.IsWhole)
  (a16 : Memref sig .tc .vmem S1x1 .f32) (h16 : a16.IsWhole)
  (a17 : Memref sig .tc .vmem S1x512 .f32) (h17 : a17.IsWhole)
  (hc0 : ¬cond0_0 i) (hc1 : cond0_1 i)
  (x0 : Vec F S2048x128 .f32) (x1 : Vec F S1x2048 .f32) (x2 : Vec F S2048x512 .f32) (x3 : Vec F S128x128 .f32) (x4 : Vec F S1x128 .f32) (x5 : Vec F S32x128 .f32) (x6 : Vec F S1x32 .f32) (x7 : Vec F S512x32 .f32) (x8 : Vec F S32x512 .f32)
  (xs0 : Vec F S1x1 .f32) (xs1 : Vec F S1x1 .f32) (xs2 : Vec F S1x512 .f32)

/-- The codes' block a point writes. -/
theorem out10 : out0_C_10 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2
    = k0_pay13 (k0_pay9 x0 x3 x4 x5 x6) (k0_pay10 x0 x3 x4 x5 x6 x8) x2 x7 := by
  unfold out0_C_10
  rw [View.read_writes_eq_canon _ _ _ (cover0_C_10 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2)]
  unfold kernelRun0_C
  dsimp only
  sl_unfold_words
  rw [View.canon_cons_unit_zero (S := S2048x32) hz]
  simp only [View.readAt_eq_ld, h1.read_unread, h2.read_unread, h3.read_unread, h4.read_unread, h5.read_unread, h6.read_unread,
    h7.read_unread, h8.read_unread, h9.read_unread, h15.read_unread, h16.read_unread, h17.read_unread, View.ld_unit_zero (S := S2048x128) hz,
    View.ld_unit_zero (S := S1x2048) hz, View.ld_unit_zero (S := S2048x512) hz, View.ld_unit_zero (S := S128x128) hz,
    View.ld_unit_zero (S := S1x128) hz, View.ld_unit_zero (S := S32x128) hz, View.ld_unit_zero (S := S1x32) hz,
    View.ld_unit_zero (S := S512x32) hz, View.ld_unit_zero (S := S32x512) hz, View.ld_unit_zero (S := S1x1) hz,
    View.ld_unit_zero (S := S1x512) hz, View.readCov_unit_zero (S := S1x1) _ hz, View.readCov_unit_zero (S := S1x512) _ hz]

/-- The encodings' block a point writes. -/
theorem out12 : out0_C_12 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2
    = k0_pay11 (k0_pay10 x0 x3 x4 x5 x6 x8) x2 := by
  unfold out0_C_12
  rw [View.read_writes_eq_canon _ _ _ (cover0_C_12 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2)]
  unfold kernelRun0_C
  dsimp only
  sl_unfold_words
  rw [View.canon_cons_unit_zero (S := S2048x512) hz]
  simp only [View.readAt_eq_ld, h1.read_unread, h2.read_unread, h3.read_unread, h4.read_unread, h5.read_unread, h6.read_unread,
    h7.read_unread, h8.read_unread, h9.read_unread, h15.read_unread, h16.read_unread, h17.read_unread, View.ld_unit_zero (S := S2048x128) hz,
    View.ld_unit_zero (S := S1x2048) hz, View.ld_unit_zero (S := S2048x512) hz, View.ld_unit_zero (S := S128x128) hz,
    View.ld_unit_zero (S := S1x128) hz, View.ld_unit_zero (S := S32x128) hz, View.ld_unit_zero (S := S1x32) hz,
    View.ld_unit_zero (S := S512x32) hz, View.ld_unit_zero (S := S32x512) hz, View.ld_unit_zero (S := S1x1) hz,
    View.ld_unit_zero (S := S1x512) hz, View.readCov_unit_zero (S := S1x1) _ hz, View.readCov_unit_zero (S := S1x512) _ hz]

/-- The distances' block a point writes. -/
theorem out13 : out0_C_13 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2
    = (k0_pay10 x0 x3 x4 x5 x6 x8) := by
  unfold out0_C_13
  rw [View.read_writes_eq_canon _ _ _ (cover0_C_13 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2)]
  unfold kernelRun0_C
  dsimp only
  sl_unfold_words
  rw [View.canon_cons_unit_zero (S := S2048x512) hz]
  simp only [View.readAt_eq_ld, h1.read_unread, h2.read_unread, h3.read_unread, h4.read_unread, h5.read_unread, h6.read_unread,
    h7.read_unread, h8.read_unread, h9.read_unread, h15.read_unread, h16.read_unread, h17.read_unread, View.ld_unit_zero (S := S2048x128) hz,
    View.ld_unit_zero (S := S1x2048) hz, View.ld_unit_zero (S := S2048x512) hz, View.ld_unit_zero (S := S128x128) hz,
    View.ld_unit_zero (S := S1x128) hz, View.ld_unit_zero (S := S32x128) hz, View.ld_unit_zero (S := S1x32) hz,
    View.ld_unit_zero (S := S512x32) hz, View.ld_unit_zero (S := S32x512) hz, View.ld_unit_zero (S := S1x1) hz,
    View.ld_unit_zero (S := S1x512) hz, View.readCov_unit_zero (S := S1x1) _ hz, View.readCov_unit_zero (S := S1x512) _ hz]

/-- The count of kept rows a point leaves. -/
theorem cnt : sout0_C_0 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2
    = k0_pay15 x1 xs0 := by
  unfold sout0_C_0
  rw [View.read_writes_eq_canon _ _ _ (scover0_C_0 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2)]
  unfold kernelRun0_C
  dsimp only
  sl_unfold_words
  rw [View.canon_cons_unit_zero (S := S1x1) hz]
  simp only [View.readAt_eq_ld, h1.read_unread, h2.read_unread, h3.read_unread, h4.read_unread, h5.read_unread, h6.read_unread,
    h7.read_unread, h8.read_unread, h9.read_unread, h15.read_unread, h16.read_unread, h17.read_unread, View.ld_unit_zero (S := S2048x128) hz,
    View.ld_unit_zero (S := S1x2048) hz, View.ld_unit_zero (S := S2048x512) hz, View.ld_unit_zero (S := S128x128) hz,
    View.ld_unit_zero (S := S1x128) hz, View.ld_unit_zero (S := S32x128) hz, View.ld_unit_zero (S := S1x32) hz,
    View.ld_unit_zero (S := S512x32) hz, View.ld_unit_zero (S := S32x512) hz, View.ld_unit_zero (S := S1x1) hz,
    View.ld_unit_zero (S := S1x512) hz, View.readCov_unit_zero (S := S1x1) _ hz, View.readCov_unit_zero (S := S1x512) _ hz]

/-- The sum of squared steps a point leaves. -/
theorem loss : sout0_C_1 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2
    = k0_pay1 (k0_pay14 x1) (k0_pay16 (k0_pay9 x0 x3 x4 x5 x6) (k0_pay10 x0 x3 x4 x5 x6 x8) x2 x7) xs1 := by
  unfold sout0_C_1
  rw [View.read_writes_eq_canon _ _ _ (scover0_C_1 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2)]
  unfold kernelRun0_C
  dsimp only
  sl_unfold_words
  rw [View.canon_cons_unit_zero (S := S1x1) hz]
  simp only [View.readAt_eq_ld, h1.read_unread, h2.read_unread, h3.read_unread, h4.read_unread, h5.read_unread, h6.read_unread,
    h7.read_unread, h8.read_unread, h9.read_unread, h15.read_unread, h16.read_unread, h17.read_unread, View.ld_unit_zero (S := S2048x128) hz,
    View.ld_unit_zero (S := S1x2048) hz, View.ld_unit_zero (S := S2048x512) hz, View.ld_unit_zero (S := S128x128) hz,
    View.ld_unit_zero (S := S1x128) hz, View.ld_unit_zero (S := S32x128) hz, View.ld_unit_zero (S := S1x32) hz,
    View.ld_unit_zero (S := S512x32) hz, View.ld_unit_zero (S := S32x512) hz, View.ld_unit_zero (S := S1x1) hz,
    View.ld_unit_zero (S := S1x512) hz, View.readCov_unit_zero (S := S1x1) _ hz, View.readCov_unit_zero (S := S1x512) _ hz]

/-- The entries' counts a point leaves. -/
theorem counts : sout0_C_2 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2
    = k0_pay2 (k0_pay11 (k0_pay10 x0 x3 x4 x5 x6 x8) x2) (k0_pay14 x1) xs2 := by
  unfold sout0_C_2
  rw [View.read_writes_eq_canon _ _ _ (scover0_C_2 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2)]
  unfold kernelRun0_C
  dsimp only
  sl_unfold_words
  rw [View.canon_cons_unit_zero (S := S1x512) hz]
  simp only [View.readAt_eq_ld, h1.read_unread, h2.read_unread, h3.read_unread, h4.read_unread, h5.read_unread, h6.read_unread,
    h7.read_unread, h8.read_unread, h9.read_unread, h15.read_unread, h16.read_unread, h17.read_unread, View.ld_unit_zero (S := S2048x128) hz,
    View.ld_unit_zero (S := S1x2048) hz, View.ld_unit_zero (S := S2048x512) hz, View.ld_unit_zero (S := S128x128) hz,
    View.ld_unit_zero (S := S1x128) hz, View.ld_unit_zero (S := S32x128) hz, View.ld_unit_zero (S := S1x32) hz,
    View.ld_unit_zero (S := S512x32) hz, View.ld_unit_zero (S := S32x512) hz, View.ld_unit_zero (S := S1x1) hz,
    View.ld_unit_zero (S := S1x512) hz, View.readCov_unit_zero (S := S1x1) _ hz, View.readCov_unit_zero (S := S1x512) _ hz]

/-- The loss the last point writes. -/
theorem out9 : out0_C_9 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2
    = k0_pay4 (k0_pay15 x1 xs0) (k0_pay1 (k0_pay14 x1) (k0_pay16 (k0_pay9 x0 x3 x4 x5 x6) (k0_pay10 x0 x3 x4 x5 x6 x8) x2 x7) xs1) := by
  unfold out0_C_9
  rw [View.read_writes_eq_canon _ _ _ (cover0_C_9 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2)]
  unfold kernelRun0_C
  dsimp only
  sl_unfold_words
  rw [View.canon_cons_unit_zero (S := S1x1) hz]
  simp only [View.readAt_eq_ld, h1.read_unread, h2.read_unread, h3.read_unread, h4.read_unread, h5.read_unread, h6.read_unread,
    h7.read_unread, h8.read_unread, h9.read_unread, h15.read_unread, h16.read_unread, h17.read_unread, View.ld_unit_zero (S := S2048x128) hz,
    View.ld_unit_zero (S := S1x2048) hz, View.ld_unit_zero (S := S2048x512) hz, View.ld_unit_zero (S := S128x128) hz,
    View.ld_unit_zero (S := S1x128) hz, View.ld_unit_zero (S := S32x128) hz, View.ld_unit_zero (S := S1x32) hz,
    View.ld_unit_zero (S := S512x32) hz, View.ld_unit_zero (S := S32x512) hz, View.ld_unit_zero (S := S1x1) hz,
    View.ld_unit_zero (S := S1x512) hz, View.readCov_unit_zero (S := S1x1) _ hz, View.readCov_unit_zero (S := S1x512) _ hz]

/-- The perplexity the last point writes. -/
theorem out11 : out0_C_11 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2
    = k0_pay5 (k0_pay15 x1 xs0) (k0_pay2 (k0_pay11 (k0_pay10 x0 x3 x4 x5 x6 x8) x2) (k0_pay14 x1) xs2) := by
  unfold out0_C_11
  rw [View.read_writes_eq_canon _ _ _ (cover0_C_11 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 xs0 xs1 xs2)]
  unfold kernelRun0_C
  dsimp only
  sl_unfold_words
  rw [View.canon_cons_unit_zero (S := S1x1) hz]
  simp only [View.readAt_eq_ld, h1.read_unread, h2.read_unread, h3.read_unread, h4.read_unread, h5.read_unread, h6.read_unread,
    h7.read_unread, h8.read_unread, h9.read_unread, h15.read_unread, h16.read_unread, h17.read_unread, View.ld_unit_zero (S := S2048x128) hz,
    View.ld_unit_zero (S := S1x2048) hz, View.ld_unit_zero (S := S2048x512) hz, View.ld_unit_zero (S := S128x128) hz,
    View.ld_unit_zero (S := S1x128) hz, View.ld_unit_zero (S := S32x128) hz, View.ld_unit_zero (S := S1x32) hz,
    View.ld_unit_zero (S := S512x32) hz, View.ld_unit_zero (S := S32x512) hz, View.ld_unit_zero (S := S1x1) hz,
    View.ld_unit_zero (S := S1x512) hz, View.readCov_unit_zero (S := S1x1) _ hz, View.readCov_unit_zero (S := S1x512) _ hz]

end Cert.KernelIdeal.CaseC
-- ==== Proof.Steps.lean ====
module

public import proofs.«01_k».proof.Proof.Gen.KernelIdeal.Value
public import proofs.«01_k».proof.Proof.CaseA
public import proofs.«01_k».proof.Proof.CaseB
public import proofs.«01_k».proof.Proof.CaseC

@[expose] public section

noncomputable section

namespace Cert.KernelIdeal.Steps

open Idealize.ShloMosaic Idealize.ShloMosaic.TcCoe Idealize.SL.Sem
open Cert.KernelIdeal Cert.KernelIdeal.Gen Cert.KernelIdeal.Value

variable {F : FTy → Type} [FloatOps F]
variable (m : (ℓ : Loc nD τ sig) → Buf (Elt F) ℓ) (c : Dev nD)

/-- What the points carry: the five results' blocks, then the three running sums. -/
abbrev Carried (F : FTy → Type) [FloatOps F] : Type := Vec F S1x1 .f32 × Vec F S2048x32 .f32 × Vec F S1x1 .f32 × Vec F S2048x512 .f32 × Vec F S2048x512 .f32 × Vec F S1x1 .f32 × Vec F S1x1 .f32 × Vec F S1x512 .f32

/-- The codes of the point's rows. -/
def code (t : Fin cfg0.N) : Vec F S2048x32 .f32 :=
  k0_pay9 (iblk m c 0 t) (iblk m c 3 t) (iblk m c 4 t) (iblk m c 5 t) (iblk m c 6 t)
/-- The negated squared distances of the point's rows to the entries. -/
def ndist (t : Fin cfg0.N) : Vec F S2048x512 .f32 :=
  k0_pay10 (iblk m c 0 t) (iblk m c 3 t) (iblk m c 4 t) (iblk m c 5 t) (iblk m c 6 t) (iblk m c 8 t)
/-- The encodings of the point's rows. -/
def enc (t : Fin cfg0.N) : Vec F S2048x512 .f32 := k0_pay11 (ndist m c t) (iblk m c 2 t)
/-- The count of kept rows after the point's. -/
def cntNext (t : Fin cfg0.N) (v : Vec F S1x1 .f32) : Vec F S1x1 .f32 := k0_pay15 (iblk m c 1 t) v
/-- The loss's sum after the point's rows. -/
def lossNext (t : Fin cfg0.N) (v : Vec F S1x1 .f32) : Vec F S1x1 .f32 :=
  k0_pay1 (k0_pay14 (iblk m c 1 t)) (k0_pay16 (code m c t) (ndist m c t) (iblk m c 2 t) (iblk m c 7 t)) v
/-- The entries' counts after the point's rows. -/
def countsNext (t : Fin cfg0.N) (v : Vec F S1x512 .f32) : Vec F S1x512 .f32 :=
  k0_pay2 (enc m c t) (k0_pay14 (iblk m c 1 t)) v

/-- Every point writes its rows' codes moved to the picked entries. -/
theorem st10 (t : Fin cfg0.N) (acc : Carried F) : (stAt0 m c t.val t.isLt acc).2.1 = k0_pay13 (code m c t) (ndist m c t) (iblk m c 2 t) (iblk m c 7 t) := by
  by_cases h0 : t.val % 32 = 0
  · have h1 : ¬t.val % 32 = 31 := by omega
    rw [stAt0_A m c t acc h0 h1]
    dsimp only; rw [CaseA.out10]; rfl
  · by_cases h1 : t.val % 32 = 31
    · rw [stAt0_C m c t acc h0 h1]
      dsimp only; rw [CaseC.out10]; rfl
    · rw [stAt0_B m c t acc h0 h1]
      dsimp only; rw [CaseB.out10]; rfl

/-- Every point writes its rows' encodings. -/
theorem st12 (t : Fin cfg0.N) (acc : Carried F) : (stAt0 m c t.val t.isLt acc).2.2.2.1 = enc m c t := by
  by_cases h0 : t.val % 32 = 0
  · have h1 : ¬t.val % 32 = 31 := by omega
    rw [stAt0_A m c t acc h0 h1]
    dsimp only; rw [CaseA.out12]; rfl
  · by_cases h1 : t.val % 32 = 31
    · rw [stAt0_C m c t acc h0 h1]
      dsimp only; rw [CaseC.out12]; rfl
    · rw [stAt0_B m c t acc h0 h1]
      dsimp only; rw [CaseB.out12]; rfl

/-- Every point writes its rows' negated squared distances. -/
theorem st13 (t : Fin cfg0.N) (acc : Carried F) : (stAt0 m c t.val t.isLt acc).2.2.2.2.1 = ndist m c t := by
  by_cases h0 : t.val % 32 = 0
  · have h1 : ¬t.val % 32 = 31 := by omega
    rw [stAt0_A m c t acc h0 h1]
    dsimp only; rw [CaseA.out13]; rfl
  · by_cases h1 : t.val % 32 = 31
    · rw [stAt0_C m c t acc h0 h1]
      dsimp only; rw [CaseC.out13]; rfl
    · rw [stAt0_B m c t acc h0 h1]
      dsimp only; rw [CaseB.out13]; rfl

/-- The first point starts the running sum `cnt` from nought. -/
theorem first_cnt (t : Fin cfg0.N) (acc : Carried F) (h0 : t.val % 32 = 0) : (stAt0 m c t.val t.isLt acc).2.2.2.2.2.1 = cntNext m c t k0_pay6 := by
  have h1 : ¬t.val % 32 = 31 := by omega
  rw [stAt0_A m c t acc h0 h1]
  dsimp only; rw [CaseA.cnt]; rfl

/-- Every later point adds to the running sum `cnt`. -/
theorem next_cnt (t : Fin cfg0.N) (acc : Carried F) (h0 : ¬t.val % 32 = 0) : (stAt0 m c t.val t.isLt acc).2.2.2.2.2.1 = cntNext m c t acc.2.2.2.2.2.1 := by
  by_cases h1 : t.val % 32 = 31
  · rw [stAt0_C m c t acc h0 h1]
    dsimp only; rw [CaseC.cnt]; rfl
  · rw [stAt0_B m c t acc h0 h1]
    dsimp only; rw [CaseB.cnt]; rfl

/-- The first point starts the running sum `loss` from nought. -/
theorem first_loss (t : Fin cfg0.N) (acc : Carried F) (h0 : t.val % 32 = 0) : (stAt0 m c t.val t.isLt acc).2.2.2.2.2.2.1 = lossNext m c t k0_pay7 := by
  have h1 : ¬t.val % 32 = 31 := by omega
  rw [stAt0_A m c t acc h0 h1]
  dsimp only; rw [CaseA.loss]; rfl

/-- Every later point adds to the running sum `loss`. -/
theorem next_loss (t : Fin cfg0.N) (acc : Carried F) (h0 : ¬t.val % 32 = 0) : (stAt0 m c t.val t.isLt acc).2.2.2.2.2.2.1 = lossNext m c t acc.2.2.2.2.2.2.1 := by
  by_cases h1 : t.val % 32 = 31
  · rw [stAt0_C m c t acc h0 h1]
    dsimp only; rw [CaseC.loss]; rfl
  · rw [stAt0_B m c t acc h0 h1]
    dsimp only; rw [CaseB.loss]; rfl

/-- The first point starts the running sum `counts` from nought. -/
theorem first_counts (t : Fin cfg0.N) (acc : Carried F) (h0 : t.val % 32 = 0) : (stAt0 m c t.val t.isLt acc).2.2.2.2.2.2.2 = countsNext m c t k0_pay8 := by
  have h1 : ¬t.val % 32 = 31 := by omega
  rw [stAt0_A m c t acc h0 h1]
  dsimp only; rw [CaseA.counts]; rfl

/-- Every later point adds to the running sum `counts`. -/
theorem next_counts (t : Fin cfg0.N) (acc : Carried F) (h0 : ¬t.val % 32 = 0) : (stAt0 m c t.val t.isLt acc).2.2.2.2.2.2.2 = countsNext m c t acc.2.2.2.2.2.2.2 := by
  by_cases h1 : t.val % 32 = 31
  · rw [stAt0_C m c t acc h0 h1]
    dsimp only; rw [CaseC.counts]; rfl
  · rw [stAt0_B m c t acc h0 h1]
    dsimp only; rw [CaseB.counts]; rfl

/-- The last point writes the loss from the sums. -/
theorem last9 (t : Fin cfg0.N) (acc : Carried F) (h1 : t.val % 32 = 31) : (stAt0 m c t.val t.isLt acc).1 = k0_pay4 (cntNext m c t acc.2.2.2.2.2.1) (lossNext m c t acc.2.2.2.2.2.2.1) := by
  have h0 : ¬t.val % 32 = 0 := by omega
  rw [stAt0_C m c t acc h0 h1]
  dsimp only; rw [CaseC.out9]; rfl

/-- The last point writes the perplexity from the sums. -/
theorem last11 (t : Fin cfg0.N) (acc : Carried F) (h1 : t.val % 32 = 31) : (stAt0 m c t.val t.isLt acc).2.2.1 = k0_pay5 (cntNext m c t acc.2.2.2.2.2.1) (countsNext m c t acc.2.2.2.2.2.2.2) := by
  have h0 : ¬t.val % 32 = 0 := by omega
  rw [stAt0_C m c t acc h0 h1]
  dsimp only; rw [CaseC.out11]; rfl

/-! ## Along the grid -/

/-- What the points up to the `j`-th leave. -/
abbrev upTo (j : ℕ) (h : 0 + j < cfg0.N) : Carried F :=
  Pipeline.accAt (fun n h => stAt0 m c n h junk0) (stAt0 m c) 0 j h

/-- After a point, window 10 holds its rows' moved codes. -/
theorem upTo10 (j : ℕ) (h : 0 + j < cfg0.N) (t : Fin cfg0.N) (ht : t.val = j) :
    (upTo m c j h).2.1 = k0_pay13 (code m c t) (ndist m c t) (iblk m c 2 t) (iblk m c 7 t) := by
  obtain rfl : t = ⟨0 + j, h⟩ := Fin.ext (by show t.val = 0 + j; omega)
  cases j with
  | zero => exact st10 m c ⟨0 + 0, h⟩ junk0
  | succ j => exact st10 m c ⟨0 + (j + 1), h⟩ _

/-- After a point, window 12 holds its rows' encodings. -/
theorem upTo12 (j : ℕ) (h : 0 + j < cfg0.N) (t : Fin cfg0.N) (ht : t.val = j) :
    (upTo m c j h).2.2.2.1 = enc m c t := by
  obtain rfl : t = ⟨0 + j, h⟩ := Fin.ext (by show t.val = 0 + j; omega)
  cases j with
  | zero => exact st12 m c ⟨0 + 0, h⟩ junk0
  | succ j => exact st12 m c ⟨0 + (j + 1), h⟩ _

/-- After a point, window 13 holds its rows' negated distances. -/
theorem upTo13 (j : ℕ) (h : 0 + j < cfg0.N) (t : Fin cfg0.N) (ht : t.val = j) :
    (upTo m c j h).2.2.2.2.1 = ndist m c t := by
  obtain rfl : t = ⟨0 + j, h⟩ := Fin.ext (by show t.val = 0 + j; omega)
  cases j with
  | zero => exact st13 m c ⟨0 + 0, h⟩ junk0
  | succ j => exact st13 m c ⟨0 + (j + 1), h⟩ _

/-- The first point's count starts from nought. -/
theorem upTo_cnt_zero (h : 0 + 0 < cfg0.N) : (upTo m c 0 h).2.2.2.2.2.1 = cntNext m c ⟨0, h⟩ k0_pay6 :=
  first_cnt m c ⟨0, h⟩ junk0 rfl

/-- A later point's count starts from the one before. -/
theorem upTo_cnt_succ (j : ℕ) (h : 0 + (j + 1) < cfg0.N) (t : Fin cfg0.N) (ht : t.val = j + 1) :
    (upTo m c (j + 1) h).2.2.2.2.2.1 = cntNext m c t (upTo m c j (Nat.lt_of_succ_lt h)).2.2.2.2.2.1 := by
  obtain rfl : t = ⟨0 + (j + 1), h⟩ := Fin.ext (by show t.val = 0 + (j + 1); omega)
  have hN : 0 + (j + 1) < 32 := lt_of_lt_of_eq h (show cfg0.N = 32 from N_0)
  exact next_cnt m c ⟨0 + (j + 1), h⟩ _ (by show ¬(0 + (j + 1)) % 32 = 0; omega)

/-- The first point's loss sum starts from nought. -/
theorem upTo_loss_zero (h : 0 + 0 < cfg0.N) : (upTo m c 0 h).2.2.2.2.2.2.1 = lossNext m c ⟨0, h⟩ k0_pay7 :=
  first_loss m c ⟨0, h⟩ junk0 rfl

/-- A later point's loss sum starts from the one before. -/
theorem upTo_loss_succ (j : ℕ) (h : 0 + (j + 1) < cfg0.N) (t : Fin cfg0.N) (ht : t.val = j + 1) :
    (upTo m c (j + 1) h).2.2.2.2.2.2.1 = lossNext m c t (upTo m c j (Nat.lt_of_succ_lt h)).2.2.2.2.2.2.1 := by
  obtain rfl : t = ⟨0 + (j + 1), h⟩ := Fin.ext (by show t.val = 0 + (j + 1); omega)
  have hN : 0 + (j + 1) < 32 := lt_of_lt_of_eq h (show cfg0.N = 32 from N_0)
  exact next_loss m c ⟨0 + (j + 1), h⟩ _ (by show ¬(0 + (j + 1)) % 32 = 0; omega)

/-- The first point's entry counts start from nought. -/
theorem upTo_counts_zero (h : 0 + 0 < cfg0.N) : (upTo m c 0 h).2.2.2.2.2.2.2 = countsNext m c ⟨0, h⟩ k0_pay8 :=
  first_counts m c ⟨0, h⟩ junk0 rfl

/-- A later point's entry counts start from the ones before. -/
theorem upTo_counts_succ (j : ℕ) (h : 0 + (j + 1) < cfg0.N) (t : Fin cfg0.N) (ht : t.val = j + 1) :
    (upTo m c (j + 1) h).2.2.2.2.2.2.2 = countsNext m c t (upTo m c j (Nat.lt_of_succ_lt h)).2.2.2.2.2.2.2 := by
  obtain rfl : t = ⟨0 + (j + 1), h⟩ := Fin.ext (by show t.val = 0 + (j + 1); omega)
  have hN : 0 + (j + 1) < 32 := lt_of_lt_of_eq h (show cfg0.N = 32 from N_0)
  exact next_counts m c ⟨0 + (j + 1), h⟩ _ (by show ¬(0 + (j + 1)) % 32 = 0; omega)

/-- The last point writes the loss from the count and the loss sum. -/
theorem upTo_last9 (j : ℕ) (h : 0 + (j + 1) < cfg0.N) (t : Fin cfg0.N) (ht : t.val = j + 1) (h31 : t.val % 32 = 31) :
    (upTo m c (j + 1) h).1 = k0_pay4 (upTo m c (j + 1) h).2.2.2.2.2.1 (upTo m c (j + 1) h).2.2.2.2.2.2.1 := by
  rw [upTo_cnt_succ m c j h t ht, upTo_loss_succ m c j h t ht]
  obtain rfl : t = ⟨0 + (j + 1), h⟩ := Fin.ext (by show t.val = 0 + (j + 1); omega)
  exact last9 m c ⟨0 + (j + 1), h⟩ _ h31

/-- The last point writes the perplexity from the count and the entry counts. -/
theorem upTo_last11 (j : ℕ) (h : 0 + (j + 1) < cfg0.N) (t : Fin cfg0.N) (ht : t.val = j + 1) (h31 : t.val % 32 = 31) :
    (upTo m c (j + 1) h).2.2.1 = k0_pay5 (upTo m c (j + 1) h).2.2.2.2.2.1 (upTo m c (j + 1) h).2.2.2.2.2.2.2 := by
  rw [upTo_cnt_succ m c j h t ht, upTo_counts_succ m c j h t ht]
  obtain rfl : t = ⟨0 + (j + 1), h⟩ := Fin.ext (by show t.val = 0 + (j + 1); omega)
  exact last11 m c ⟨0 + (j + 1), h⟩ _ h31

end Cert.KernelIdeal.Steps
-- ==== Proof.Payloads.lean ====
module

public import proofs.«01_k».proof.Proof.Gen.KernelIdeal.Skeleton
public import Idealize.ShloMosaic.Lib.Pointwise
public import Idealize.ShloMosaic.Lib.Pipeline.Value
public import Idealize.ShloMosaic.PureOps.Ideal.Laws

@[expose] public section

noncomputable section

namespace Cert.KernelIdeal.Payloads

open Idealize.ShloMosaic Idealize.ShloMosaic.TcCoe
open Cert.KernelIdeal Cert.KernelIdeal.Gen

/-- A row's code from the two layers, at row `r` and code coordinate `d`. -/
theorem pay9_at (x : FVec Ideal S2048x128 .f32) (W1 : FVec Ideal S128x128 .f32) (b1 : FVec Ideal S1x128 .f32)
    (W2 : FVec Ideal S32x128 .f32) (b2 : FVec Ideal S1x32 .f32) (r : Fin 2048) (d : Fin 32) :
    k0_pay9 (F := Ideal) x W1 b1 W2 b2 (ix2 r d)
      = (∑ h : Fin 128, max ((∑ f : Fin 128, x (ix2 r f) * W1 (ix2 h f)) + b1 (ix2 0 h)) 0 * W2 (ix2 d h)) + b2 (ix2 0 d) := by
  pointwise [k0_pay9]

/-- The negated squared distance of a row's code to an entry, from the code at the row. -/
theorem pay10_at (x : FVec Ideal S2048x128 .f32) (W1 : FVec Ideal S128x128 .f32) (b1 : FVec Ideal S1x128 .f32)
    (W2 : FVec Ideal S32x128 .f32) (b2 : FVec Ideal S1x32 .f32) (e : FVec Ideal S32x512 .f32) (r : Fin 2048) (k : Fin 512) :
    k0_pay10 (F := Ideal) x W1 b1 W2 b2 e (ix2 r k)
      = ((0 - ∑ d : Fin 32, k0_pay9 (F := Ideal) x W1 b1 W2 b2 (ix2 r d) * k0_pay9 (F := Ideal) x W1 b1 W2 b2 (ix2 r d))
          + Ideal.ofBits .f32 0xBE800000#32 * ∑ d : Fin 32, e (ix2 d k) * e (ix2 d k))
        + ∑ d : Fin 32, k0_pay9 (F := Ideal) x W1 b1 W2 b2 (ix2 r d) * e (ix2 d k) := by
  unfold k0_pay10
  generalize k0_pay9 (F := Ideal) x W1 b1 W2 b2 = z
  pointwise

/-- A row's noisy logits less nothing but the row's largest logit, as the kernel adds them up. -/
def noisy (nd g : FVec Ideal S2048x512 .f32) (r : Fin 2048) (k : Fin 512) : EReal :=
  g (ix2 r k) + (Ideal.div (nd (ix2 r k)) (Ideal.ofBits .f32 0x3DCCCCCD#32)
    - Finset.univ.fold max (Ideal.ofBits .f32 0xFF800000#32) fun j : Fin 512 => Ideal.div (nd (ix2 r j)) (Ideal.ofBits .f32 0x3DCCCCCD#32))

/-- The encoding of a row: one where the noisy logit is the row's largest. -/
theorem pay11_at (nd g : FVec Ideal S2048x512 .f32) (r : Fin 2048) (k : Fin 512) :
    k0_pay11 (F := Ideal) nd g (ix2 r k)
      = if noisy nd g r k = Finset.univ.fold max (Ideal.ofBits .f32 0xFF800000#32) (noisy nd g r) then 1 else 0 := by
  unfold k0_pay11
  pointwise
  change (((BitVec.setWidth 32 (BitVec.ofBool (decide (noisy nd g r k = Finset.univ.fold max (Ideal.ofBits .f32 0xFF800000#32) (noisy nd g r))))).toInt : ℝ) : EReal) = _
  by_cases h : noisy nd g r k = Finset.univ.fold max (Ideal.ofBits .f32 0xFF800000#32) (noisy nd g r)
  · rw [if_pos h, decide_eq_true h, show (BitVec.setWidth 32 (BitVec.ofBool true)).toInt = 1 by decide]; norm_num
  · rw [if_neg h, decide_eq_false h, show (BitVec.setWidth 32 (BitVec.ofBool false)).toInt = 0 by decide]; norm_num

/-- The picked entry's coordinate. -/
theorem pay12_at (nd g : FVec Ideal S2048x512 .f32) (cb : FVec Ideal S512x32 .f32) (r : Fin 2048) (d : Fin 32) :
    k0_pay12 (F := Ideal) nd g cb (ix2 r d) = ∑ k : Fin 512, k0_pay11 (F := Ideal) nd g (ix2 r k) * cb (ix2 k d) := by
  unfold k0_pay12
  generalize k0_pay11 (F := Ideal) nd g = e
  pointwise

/-- The code plus the step from it to the picked entry. -/
theorem pay13_at (z : FVec Ideal S2048x32 .f32) (nd g : FVec Ideal S2048x512 .f32) (cb : FVec Ideal S512x32 .f32) (r : Fin 2048) (d : Fin 32) :
    k0_pay13 (F := Ideal) z nd g cb (ix2 r d) = z (ix2 r d) + (k0_pay12 (F := Ideal) nd g cb (ix2 r d) - z (ix2 r d)) := by
  unfold k0_pay13
  generalize k0_pay12 (F := Ideal) nd g cb = q
  pointwise

/-- The squared step. -/
theorem pay16_at (z : FVec Ideal S2048x32 .f32) (nd g : FVec Ideal S2048x512 .f32) (cb : FVec Ideal S512x32 .f32) (r : Fin 2048) (d : Fin 32) :
    k0_pay16 (F := Ideal) z nd g cb (ix2 r d) = (k0_pay12 (F := Ideal) nd g cb (ix2 r d) - z (ix2 r d)) * (k0_pay12 (F := Ideal) nd g cb (ix2 r d) - z (ix2 r d)) := by
  unfold k0_pay16
  generalize k0_pay12 (F := Ideal) nd g cb = q
  pointwise

/-- The count of kept rows after a block's. -/
theorem pay15_at (mk : FVec Ideal S1x2048 .f32) (cnt : FVec Ideal S1x1 .f32) :
    k0_pay15 (F := Ideal) mk cnt (ix2 0 0) = cnt (ix2 0 0) + ∑ r : Fin 2048, mk (ix2 0 r) := by
  unfold k0_pay15 k0_pay14
  pointwise
  rw [Fin.sum_univ_one]

/-- The loss's sum after a block's. -/
theorem pay1_at (mk : FVec Ideal S1x2048 .f32) (v : FVec Ideal S2048x32 .f32) (acc : FVec Ideal S1x1 .f32) :
    k0_pay1 (F := Ideal) mk v acc (ix2 0 0) = acc (ix2 0 0) + ∑ r : Fin 2048, mk (ix2 0 r) * ∑ d : Fin 32, v (ix2 r d) := by
  unfold k0_pay1
  pointwise

/-- The entries' counts after a block's. -/
theorem pay2_at (e : FVec Ideal S2048x512 .f32) (mk : FVec Ideal S1x2048 .f32) (acc : FVec Ideal S1x512 .f32) (k : Fin 512) :
    k0_pay2 (F := Ideal) e mk acc (ix2 0 k) = acc (ix2 0 k) + ∑ r : Fin 2048, mk (ix2 0 r) * e (ix2 r k) := by
  unfold k0_pay2
  pointwise

/-- The loss from the sums. -/
theorem pay4_at (cnt acc : FVec Ideal S1x1 .f32) :
    k0_pay4 (F := Ideal) cnt acc (ix2 0 0)
      = Ideal.div (acc (ix2 0 0)) (max (cnt (ix2 0 0)) (Ideal.ofBits .f32 0x3F800000#32) * Ideal.ofBits .f32 0x42000000#32)
        + Ideal.ofBits .f32 0x3F800000#32
          * Ideal.div (acc (ix2 0 0)) (max (cnt (ix2 0 0)) (Ideal.ofBits .f32 0x3F800000#32) * Ideal.ofBits .f32 0x42000000#32) := by
  pointwise [k0_pay4, k0_pay3]

/-- The perplexity from the sums. -/
theorem pay5_at (cnt : FVec Ideal S1x1 .f32) (acc : FVec Ideal S1x512 .f32) :
    k0_pay5 (F := Ideal) cnt acc (ix2 0 0)
      = Ideal.exp (0 - ∑ k : Fin 512, Ideal.div (acc (ix2 0 k)) (max (cnt (ix2 0 0)) (Ideal.ofBits .f32 0x3F800000#32))
          * Ideal.log (Ideal.div (acc (ix2 0 k)) (max (cnt (ix2 0 0)) (Ideal.ofBits .f32 0x3F800000#32)) + Ideal.ofBits .f32 0x2EDBE6FF#32)) := by
  pointwise [k0_pay5, k0_pay3]
  rw [Fin.sum_univ_one]

end Cert.KernelIdeal.Payloads
-- ==== Proof.HostHash.lean ====
module

public import proofs.«01_k».proof.Proof.Gen.KernelIdeal.Launch
public import proofs.«01_k».proof.Proof.Words
public import Idealize.ShloMosaic.Lib.StableHlo.RunRead
public import Idealize.ShloMosaic.Lib.Pipeline.Frame

@[expose] public section

noncomputable section

namespace Cert.KernelIdeal.Host

open Idealize.ShloMosaic Idealize.ShloMosaic.TcCoe Idealize.SL.Sem Idealize.ShloMosaic.StableHlo
open Cert.KernelIdeal Cert.KernelIdeal.Gen Cert.Words

variable {F : FTy → Type} [FloatOps F]

/-- The host operations from position `a` on, before position `b`, run from the contents `W`. -/
def seg (a b : ℕ) (W : Valuation τ sig (Elt F)) : Valuation τ sig (Elt F) := after ((hostOps0.take b).drop a) W

/-- The sum of the two words, at element `i`, before the first group: nought plus the second word. -/
theorem seg0_s (W : Valuation τ sig (Elt F)) (i : S33554432.Idx) :
    (seg 0 15 W (Proc.devRef .tc main_v11) : IVec S33554432 32) i = IntOp.addi 0#32 (IntOp.addi (iotaInDim S33554432 32 0 i) 42#32) := by
  unfold seg
  after_reads_simp
  rfl

/-- The second word, at element `i`, before the first group: the element's count plus the key word. -/
theorem seg0_w (W : Valuation τ sig (Elt F)) (i : S33554432.Idx) :
    (seg 0 15 W (Proc.devRef .tc main_v9) : IVec S33554432 32) i = IntOp.addi (iotaInDim S33554432 32 0 i) 42#32 := by
  unfold seg
  after_reads_simp
  rfl

/-- The sum of the two words, at element `i`, after group 1. -/
theorem seg1_s (W : Valuation τ sig (Elt F)) (i : S33554432.Idx) :
    (seg 15 57 W (Proc.devRef .tc main_v43) : IVec S33554432 32) i
      = (start (groupA 42#32 466689009#32 ((W (Proc.devRef .tc main_v11) : IVec S33554432 32) i, (W (Proc.devRef .tc main_v9) : IVec S33554432 32) i))).1 := by
  unfold seg
  after_reads_simp
  rfl

/-- The second word, at element `i`, after group 1. -/
theorem seg1_w (W : Valuation τ sig (Elt F)) (i : S33554432.Idx) :
    (seg 15 57 W (Proc.devRef .tc main_v42) : IVec S33554432 32) i
      = (start (groupA 42#32 466689009#32 ((W (Proc.devRef .tc main_v11) : IVec S33554432 32) i, (W (Proc.devRef .tc main_v9) : IVec S33554432 32) i))).2 := by
  unfold seg
  after_reads_simp
  rfl

/-- The sum of the two words, at element `i`, after group 2. -/
theorem seg2_s (W : Valuation τ sig (Elt F)) (i : S33554432.Idx) :
    (seg 57 99 W (Proc.devRef .tc main_v75) : IVec S33554432 32) i
      = (start (groupB 466689008#32 2#32 ((W (Proc.devRef .tc main_v43) : IVec S33554432 32) i, (W (Proc.devRef .tc main_v42) : IVec S33554432 32) i))).1 := by
  unfold seg
  after_reads_simp
  rfl

/-- The second word, at element `i`, after group 2. -/
theorem seg2_w (W : Valuation τ sig (Elt F)) (i : S33554432.Idx) :
    (seg 57 99 W (Proc.devRef .tc main_v74) : IVec S33554432 32) i
      = (start (groupB 466689008#32 2#32 ((W (Proc.devRef .tc main_v43) : IVec S33554432 32) i, (W (Proc.devRef .tc main_v42) : IVec S33554432 32) i))).2 := by
  unfold seg
  after_reads_simp
  rfl

/-- The sum of the two words, at element `i`, after group 3. -/
theorem seg3_s (W : Valuation τ sig (Elt F)) (i : S33554432.Idx) :
    (seg 99 141 W (Proc.devRef .tc main_v107) : IVec S33554432 32) i
      = (start (groupA 0#32 45#32 ((W (Proc.devRef .tc main_v75) : IVec S33554432 32) i, (W (Proc.devRef .tc main_v74) : IVec S33554432 32) i))).1 := by
  unfold seg
  after_reads_simp
  rfl

/-- The second word, at element `i`, after group 3. -/
theorem seg3_w (W : Valuation τ sig (Elt F)) (i : S33554432.Idx) :
    (seg 99 141 W (Proc.devRef .tc main_v106) : IVec S33554432 32) i
      = (start (groupA 0#32 45#32 ((W (Proc.devRef .tc main_v75) : IVec S33554432 32) i, (W (Proc.devRef .tc main_v74) : IVec S33554432 32) i))).2 := by
  unfold seg
  after_reads_simp
  rfl

/-- The sum of the two words, at element `i`, after group 4. -/
theorem seg4_s (W : Valuation τ sig (Elt F)) (i : S33554432.Idx) :
    (seg 141 183 W (Proc.devRef .tc main_v139) : IVec S33554432 32) i
      = (start (groupB 42#32 466689012#32 ((W (Proc.devRef .tc main_v107) : IVec S33554432 32) i, (W (Proc.devRef .tc main_v106) : IVec S33554432 32) i))).1 := by
  unfold seg
  after_reads_simp
  rfl

/-- The second word, at element `i`, after group 4. -/
theorem seg4_w (W : Valuation τ sig (Elt F)) (i : S33554432.Idx) :
    (seg 141 183 W (Proc.devRef .tc main_v138) : IVec S33554432 32) i
      = (start (groupB 42#32 466689012#32 ((W (Proc.devRef .tc main_v107) : IVec S33554432 32) i, (W (Proc.devRef .tc main_v106) : IVec S33554432 32) i))).2 := by
  unfold seg
  after_reads_simp
  rfl

/-- The first word, at element `i`, after group 5. -/
theorem seg5_s (W : Valuation τ sig (Elt F)) (i : S33554432.Idx) :
    (seg 183 224 W (Proc.devRef .tc main_v168) : IVec S33554432 32) i
      = (groupA 466689008#32 5#32 ((W (Proc.devRef .tc main_v139) : IVec S33554432 32) i, (W (Proc.devRef .tc main_v138) : IVec S33554432 32) i)).1 := by
  unfold seg
  after_reads_simp
  rfl

/-- The second word, at element `i`, after group 5. -/
theorem seg5_w (W : Valuation τ sig (Elt F)) (i : S33554432.Idx) :
    (seg 183 224 W (Proc.devRef .tc main_v170) : IVec S33554432 32) i
      = (groupA 466689008#32 5#32 ((W (Proc.devRef .tc main_v139) : IVec S33554432 32) i, (W (Proc.devRef .tc main_v138) : IVec S33554432 32) i)).2 := by
  unfold seg
  after_reads_simp
  rfl

/-- The table, at a row and a column, after the last host operations: read from the two hashed words at the flat position. -/
theorem seg6 (W : Valuation τ sig (Elt F)) :
    (seg 224 243 W (Proc.devRef .tc main_v185) : FVec F S65536x512 .f32)
      = shapeCast S65536x512 (fun i : S33554432.Idx => FloatOps.hostNegf (FloatOps.hostUnary .log (FloatOps.hostNegf (FloatOps.hostUnary .log
          (FloatOps.addf (FloatOps.subf (FloatOps.ofBits .f32 (unitBits (IntOp.xori ((W (Proc.devRef .tc main_v168) : IVec S33554432 32) i) ((W (Proc.devRef .tc main_v170) : IVec S33554432 32) i)))) (FloatOps.ofBits .f32 0x3F800000#32)) (FloatOps.ofBits .f32 0x00800000#32)))))) shapeCasts_S33554432_S65536x512 := by
  unfold seg
  after_reads_simp
  rfl

/-- The whole line is its seven stretches in turn. -/
theorem after_segs (W : Valuation τ sig (Elt F)) :
    after hostOps0 W = seg 224 243 (seg 183 224 (seg 141 183 (seg 99 141 (seg 57 99 (seg 15 57 (seg 0 15 W)))))) := by
  simp only [seg, ← StableHlo.after_append]
  rfl

end Cert.KernelIdeal.Host
-- ==== Proof.HostReads.lean ====
module

public import proofs.«01_k».proof.Proof.Gen.KernelIdeal.Frame.Runs
public import proofs.«01_k».proof.Proof.HostHash
public import proofs.«01_k».proof.Proof.Rows
public import Idealize.ShloMosaic.Lib.Pointwise
public import Idealize.ShloMosaic.Lib.Pipeline.Value

@[expose] public section

noncomputable section

namespace Cert.KernelIdeal.Host

open Idealize.ShloMosaic Idealize.ShloMosaic.TcCoe Idealize.SL.Sem Idealize.ShloMosaic.StableHlo
open Cert.KernelIdeal Cert.KernelIdeal.Gen Cert.Words

variable (m : (ℓ : Loc nD τ sig) → Buf (Elt Ideal) ℓ) (c : Dev nD)

/-- The mask's row holds the mask's words as numbers. -/
theorem mask_at (n : Fin 65536) :
    (V m c main_v1 : FVec Ideal S1x65536 .f32) (ix2 0 n)
      = FloatOps.uitofp (F := Ideal) .f32 ((m ((c : Thread nD τ).loc main_arg1) : IVec S65536 1) (ix1 n)) := by
  have h : (V m c main_v1 : FVec Ideal S1x65536 .f32)
      = shapeCast S1x65536 (uitofp (F := Ideal) .f32 (m ((c : Thread nD τ).loc main_arg1) : IVec S65536 1)) shapeCasts_S65536_S1x65536 := by
    unfold V
    after_reads_simp
    rfl
  rw [h, shapeCast_apply _ _ (ix2 0 n) (ix1 n)]
  · rfl
  · rw [Shape.rowMajor_val_one, Shape.rowMajor_val_two]
    show n.val = 0 * 65536 + n.val
    rw [Nat.zero_mul, Nat.zero_add]

/-- The first layer's bias as a row. -/
theorem bias1_at (k : Fin 128) :
    (V m c main_v5 : FVec Ideal S1x128 .f32) (ix2 0 k) = (m ((c : Thread nD τ).loc main_arg3) : FVec Ideal S128 .f32) (ix1 k) := by
  have h : (V m c main_v5 : FVec Ideal S1x128 .f32)
      = shapeCast S1x128 (m ((c : Thread nD τ).loc main_arg3) : FVec Ideal S128 .f32) shapeCasts_S128_S1x128 := by
    unfold V
    after_reads_simp
    rfl
  rw [h]
  pointwise

/-- The second layer's bias as a row. -/
theorem bias2_at (k : Fin 32) :
    (V m c main_v6 : FVec Ideal S1x32 .f32) (ix2 0 k) = (m ((c : Thread nD τ).loc main_arg5) : FVec Ideal S32 .f32) (ix1 k) := by
  have h : (V m c main_v6 : FVec Ideal S1x32 .f32)
      = shapeCast S1x32 (m ((c : Thread nD τ).loc main_arg5) : FVec Ideal S32 .f32) shapeCasts_S32_S1x32 := by
    unfold V
    after_reads_simp
    rfl
  rw [h]
  pointwise

/-- The code book turned and doubled. -/
theorem twice_at (d : Fin 32) (k : Fin 512) :
    (V m c main_v4 : FVec Ideal S32x512 .f32) (ix2 d k)
      = FloatOps.mulf (F := Ideal) (φ := .f32) ((m ((c : Thread nD τ).loc main_arg6) : FVec Ideal S512x32 .f32) (ix2 k d)) (Ideal.ofBits .f32 0x40000000#32) := by
  have h : (V m c main_v4 : FVec Ideal S32x512 .f32)
      = mulf (transpose S32x512 [1, 0] (m ((c : Thread nD τ).loc main_arg6) : FVec Ideal S512x32 .f32) transposes_S512x32_S32x512_1_0)
          (broadcastInDim S32x512 ![] bcast_S_S32x512 (constant (F := Ideal) S_ .f32 0x40000000#32)) := by
    unfold V
    after_reads_simp
  rw [h]
  pointwise

/-- The flat position of row `n` and column `k`. -/
def flat (n : Fin 65536) (k : Fin 512) : Fin 33554432 := ⟨n.val * 512 + k.val, by omega⟩

/-- The pair of words before the first group. -/
theorem words0 (W : Valuation τ sig (Elt Ideal)) (i : S33554432.Idx) :
    ((seg 0 15 W (Proc.devRef .tc main_v11) : IVec S33554432 32) i, (seg 0 15 W (Proc.devRef .tc main_v9) : IVec S33554432 32) i)
      = (IntOp.addi 0#32 (IntOp.addi (BitVec.ofNat 32 (i 0).val) 42#32), IntOp.addi (BitVec.ofNat 32 (i 0).val) 42#32) :=
  Prod.ext (seg0_s W i) (seg0_w W i)

/-- The pair of words after group 1, from the pair before it. -/
theorem words1 (W : Valuation τ sig (Elt Ideal)) (i : S33554432.Idx) :
    ((seg 15 57 W (Proc.devRef .tc main_v43) : IVec S33554432 32) i, (seg 15 57 W (Proc.devRef .tc main_v42) : IVec S33554432 32) i)
      = start (groupA 42#32 466689009#32 ((W (Proc.devRef .tc main_v11) : IVec S33554432 32) i, (W (Proc.devRef .tc main_v9) : IVec S33554432 32) i)) :=
  Prod.ext (seg1_s W i) (seg1_w W i)

/-- The pair of words after group 2, from the pair before it. -/
theorem words2 (W : Valuation τ sig (Elt Ideal)) (i : S33554432.Idx) :
    ((seg 57 99 W (Proc.devRef .tc main_v75) : IVec S33554432 32) i, (seg 57 99 W (Proc.devRef .tc main_v74) : IVec S33554432 32) i)
      = start (groupB 466689008#32 2#32 ((W (Proc.devRef .tc main_v43) : IVec S33554432 32) i, (W (Proc.devRef .tc main_v42) : IVec S33554432 32) i)) :=
  Prod.ext (seg2_s W i) (seg2_w W i)

/-- The pair of words after group 3, from the pair before it. -/
theorem words3 (W : Valuation τ sig (Elt Ideal)) (i : S33554432.Idx) :
    ((seg 99 141 W (Proc.devRef .tc main_v107) : IVec S33554432 32) i, (seg 99 141 W (Proc.devRef .tc main_v106) : IVec S33554432 32) i)
      = start (groupA 0#32 45#32 ((W (Proc.devRef .tc main_v75) : IVec S33554432 32) i, (W (Proc.devRef .tc main_v74) : IVec S33554432 32) i)) :=
  Prod.ext (seg3_s W i) (seg3_w W i)

/-- The pair of words after group 4, from the pair before it. -/
theorem words4 (W : Valuation τ sig (Elt Ideal)) (i : S33554432.Idx) :
    ((seg 141 183 W (Proc.devRef .tc main_v139) : IVec S33554432 32) i, (seg 141 183 W (Proc.devRef .tc main_v138) : IVec S33554432 32) i)
      = start (groupB 42#32 466689012#32 ((W (Proc.devRef .tc main_v107) : IVec S33554432 32) i, (W (Proc.devRef .tc main_v106) : IVec S33554432 32) i)) :=
  Prod.ext (seg4_s W i) (seg4_w W i)

/-- The pair of words after group 5, from the pair before it. -/
theorem words5 (W : Valuation τ sig (Elt Ideal)) (i : S33554432.Idx) :
    ((seg 183 224 W (Proc.devRef .tc main_v168) : IVec S33554432 32) i, (seg 183 224 W (Proc.devRef .tc main_v170) : IVec S33554432 32) i)
      = groupA 466689008#32 5#32 ((W (Proc.devRef .tc main_v139) : IVec S33554432 32) i, (W (Proc.devRef .tc main_v138) : IVec S33554432 32) i) :=
  Prod.ext (seg5_s W i) (seg5_w W i)

/-- The two hashed words together, at an element, are the word of its count. -/
theorem hashed (W : Valuation τ sig (Elt Ideal)) (i : S33554432.Idx) :
    IntOp.xori
      ((seg 183 224 (seg 141 183 (seg 99 141 (seg 57 99 (seg 15 57 (seg 0 15 W))))) (Proc.devRef .tc main_v168) : IVec S33554432 32) i)
      ((seg 183 224 (seg 141 183 (seg 99 141 (seg 57 99 (seg 15 57 (seg 0 15 W))))) (Proc.devRef .tc main_v170) : IVec S33554432 32) i)
      = word (BitVec.ofNat 32 (i 0).val) := by
  have h5 := words5 (seg 141 183 (seg 99 141 (seg 57 99 (seg 15 57 (seg 0 15 W))))) i
  have h4 := words4 (seg 99 141 (seg 57 99 (seg 15 57 (seg 0 15 W)))) i
  have h3 := words3 (seg 57 99 (seg 15 57 (seg 0 15 W))) i
  have h2 := words2 (seg 15 57 (seg 0 15 W)) i
  have h1 := words1 (seg 0 15 W) i
  have h0 := words0 W i
  have h := h5.trans (congrArg (fun p => groupA 466689008#32 5#32 p) (h4.trans (congrArg (fun p => start (groupB 42#32 466689012#32 p)) (h3.trans (congrArg (fun p => start (groupA 0#32 45#32 p))
    (h2.trans (congrArg (fun p => start (groupB 466689008#32 2#32 p)) (h1.trans (congrArg (fun p => start (groupA 42#32 466689009#32 p)) h0)))))))))
  have e := congrArg (fun p : BitVec 32 × BitVec 32 => IntOp.xori p.1 p.2) h
  unfold word Cert.Words.hash
  generalize BitVec.ofNat 32 (i 0).val = n at e ⊢
  exact e

/-- The host's last operations on a word are its noise. -/
theorem noise_ops (w : BitVec 32) :
    FloatOps.hostNegf (F := Ideal) (φ := .f32) (FloatOps.hostUnary .log (FloatOps.hostNegf (FloatOps.hostUnary .log
      (FloatOps.addf (FloatOps.subf (FloatOps.ofBits .f32 (unitBits w)) (FloatOps.ofBits .f32 0x3F800000#32)) (FloatOps.ofBits .f32 0x00800000#32)))))
      = Cert.Rows.gumbel w := by
  unfold Cert.Rows.gumbel
  generalize unitBits w = u
  rfl

/-- The table is the noise of the words of the flat positions, cut into rows. -/
theorem table_eq : (V m c main_v185 : FVec Ideal S65536x512 .f32)
    = shapeCast S65536x512 (fun i : S33554432.Idx => Cert.Rows.gumbel (word (BitVec.ofNat 32 (i 0).val))) shapeCasts_S33554432_S65536x512 := by
  refine (congrFun (after_segs (fun b => m (c, b))) (Proc.devRef .tc main_v185)).trans ?_
  have h0 := seg6 (seg 183 224 (seg 141 183 (seg 99 141 (seg 57 99 (seg 15 57 (seg 0 15 fun b => m (c, b)))))))
  refine h0.trans ?_
  refine congrArg (fun f : S33554432.Idx → EReal => shapeCast S65536x512 f shapeCasts_S33554432_S65536x512) (funext fun i => ?_)
  have h := hashed (fun b => m (c, b)) i
  exact (noise_ops _).trans (congrArg Cert.Rows.gumbel h)

/-- The table at a row and a column is the noise of the word of their flat position. -/
theorem table_at (n : Fin 65536) (k : Fin 512) :
    (V m c main_v185 : FVec Ideal S65536x512 .f32) (ix2 n k) = Cert.Rows.gumbel (word (BitVec.ofNat 32 (n.val * 512 + k.val))) := by
  rw [table_eq, shapeCast_apply _ _ (ix2 n k) (ix1 (flat n k))]
  · rfl
  · rw [Shape.rowMajor_val_one, Shape.rowMajor_val_two]
    rfl

end Cert.KernelIdeal.Host
-- ==== Proof.KernelBlocks.lean ====
module

public import proofs.«01_k».proof.Proof.Model
public import proofs.«01_k».proof.Proof.Blocks
public import proofs.«01_k».proof.Proof.Steps
public import proofs.«01_k».proof.Proof.Payloads
public import proofs.«01_k».proof.Proof.HostReads

@[expose] public section

noncomputable section

namespace Cert.KernelIdeal.Values

open Idealize.ShloMosaic Idealize.ShloMosaic.TcCoe Idealize.SL.Sem
open Cert.KernelIdeal Cert.KernelIdeal.Gen Cert.KernelIdeal.Blocks Cert.KernelIdeal.Payloads Cert.Rows

variable (m : (ℓ : Loc nD τ sig) → Buf (Elt Ideal) ℓ) (c : Dev nD)

/-- The argument arrays as functions of their coordinates. -/
def args : Model.Inputs where
  x n f := (m ((c : Thread nD τ).loc main_arg0) : FVec Ideal S65536x128 .f32) (ix2 n f)
  mask n := FloatOps.uitofp (F := Ideal) .f32 ((m ((c : Thread nD τ).loc main_arg1) : IVec S65536 1) (ix1 n))
  w1 h f := (m ((c : Thread nD τ).loc main_arg2) : FVec Ideal S128x128 .f32) (ix2 h f)
  b1 h := (m ((c : Thread nD τ).loc main_arg3) : FVec Ideal S128 .f32) (ix1 h)
  w2 d h := (m ((c : Thread nD τ).loc main_arg4) : FVec Ideal S32x128 .f32) (ix2 d h)
  b2 d := (m ((c : Thread nD τ).loc main_arg5) : FVec Ideal S32 .f32) (ix1 d)
  book k d := (m ((c : Thread nD τ).loc main_arg6) : FVec Ideal S512x32 .f32) (ix2 k d)

variable (t : Fin cfg0.N)

/-- A point's input rows. -/
theorem x_at (r : Fin 2048) (f : Fin 128) : (iblk m c 0 t : FVec Ideal S2048x128 .f32) (ix2 r f) = (args m c).x (row t r) f :=
  (block0 m c t r f).trans (by rw [V_main_arg0]; rfl)

/-- A point's mask, as numbers. -/
theorem mask_at (r : Fin 2048) : (iblk m c 1 t : FVec Ideal S1x2048 .f32) (ix2 0 r) = (args m c).mask (row t r) :=
  (block1 m c t r).trans (Host.mask_at m c (row t r))

/-- A point's noise. -/
theorem noise_at (r : Fin 2048) (k : Fin 512) : (iblk m c 2 t : FVec Ideal S2048x512 .f32) (ix2 r k) = Model.noise (row t r) k :=
  (block2 m c t r k).trans (Host.table_at m c (row t r) k)

/-- The first layer's weights. -/
theorem w1_at (h : Fin 128) (f : Fin 128) : (iblk m c 3 t : FVec Ideal S128x128 .f32) (ix2 h f) = (args m c).w1 h f :=
  (block3 m c t (ix2 h f)).trans (by rw [V_main_arg2]; rfl)

/-- The first layer's bias. -/
theorem b1_at (h : Fin 128) : (iblk m c 4 t : FVec Ideal S1x128 .f32) (ix2 0 h) = (args m c).b1 h :=
  (block4 m c t (ix2 0 h)).trans (Host.bias1_at m c h)

/-- The second layer's weights. -/
theorem w2_at (d : Fin 32) (h : Fin 128) : (iblk m c 5 t : FVec Ideal S32x128 .f32) (ix2 d h) = (args m c).w2 d h :=
  (block5 m c t (ix2 d h)).trans (by rw [V_main_arg4]; rfl)

/-- The second layer's bias. -/
theorem b2_at (d : Fin 32) : (iblk m c 6 t : FVec Ideal S1x32 .f32) (ix2 0 d) = (args m c).b2 d :=
  (block6 m c t (ix2 0 d)).trans (Host.bias2_at m c d)

/-- The code book. -/
theorem book_at (k : Fin 512) (d : Fin 32) : (iblk m c 7 t : FVec Ideal S512x32 .f32) (ix2 k d) = (args m c).book k d :=
  (block7 m c t (ix2 k d)).trans (by rw [V_main_arg6]; rfl)

/-- The code book, transposed and doubled. -/
theorem twice_at (d : Fin 32) (k : Fin 512) : (iblk m c 8 t : FVec Ideal S32x512 .f32) (ix2 d k)
    = (args m c).book k d * Ideal.ofBits .f32 0x40000000#32 :=
  (block8 m c t (ix2 d k)).trans (Host.twice_at m c d k)

/-- The codes of a point's rows. -/
theorem code_at (r : Fin 2048) (d : Fin 32) : Steps.code (F := Ideal) m c t (ix2 r d) = Model.code (args m c) (row t r) d := by
  unfold Steps.code
  rw [pay9_at]
  simp only [x_at, w1_at, b1_at, w2_at, b2_at]
  rfl

/-- The negated squared distances of a point's rows. -/
theorem ndist_at (hA : (args m c).Real) (r : Fin 2048) (k : Fin 512) :
    Steps.ndist (F := Ideal) m c t (ix2 r k) = -Model.dist (args m c) (row t r) k := by
  have hc := code_at m c t r
  unfold Steps.code at hc
  unfold Steps.ndist
  rw [pay10_at, ← Model.kernel_dist hA]
  simp only [hc, twice_at]

/-- The noisy logits of a point's rows. -/
theorem noisy_at (hA : (args m c).Real) (r : Fin 2048) (k : Fin 512) :
    noisy (Steps.ndist (F := Ideal) m c t) (iblk m c 2 t) r k = Model.noisy (args m c) (row t r) k := by
  unfold noisy Model.noisy Model.gap
  rw [noise_at, bits_bot]
  simp only [ndist_at m c t hA]
  rfl

/-- The encodings of a point's rows. -/
theorem enc_at (hA : (args m c).Real) (r : Fin 2048) (k : Fin 512) :
    Steps.enc (F := Ideal) m c t (ix2 r k) = Model.enc (args m c) (row t r) k := by
  have hn : noisy (Steps.ndist (F := Ideal) m c t) (iblk m c 2 t) r = Model.noisy (args m c) (row t r) := funext (noisy_at m c t hA r)
  unfold Steps.enc
  rw [pay11_at, hn, bits_bot]
  rfl

/-- The entries a point's rows pick. -/
theorem pick_at (hA : (args m c).Real) (r : Fin 2048) (d : Fin 32) :
    k0_pay12 (F := Ideal) (Steps.ndist m c t) (iblk m c 2 t) (iblk m c 7 t) (ix2 r d) = Model.pick (args m c) (row t r) d := by
  have he := enc_at m c t hA r
  unfold Steps.enc at he
  rw [pay12_at]
  simp only [he, book_at]
  rfl

/-- The codes of a point's rows, moved to the picked entries. -/
theorem moved_at (hA : (args m c).Real) (r : Fin 2048) (d : Fin 32) :
    k0_pay13 (F := Ideal) (Steps.code m c t) (Steps.ndist m c t) (iblk m c 2 t) (iblk m c 7 t) (ix2 r d) = Model.moved (args m c) (row t r) d := by
  rw [pay13_at, pick_at m c t hA, code_at]
  rfl

/-- The squared steps of a point's rows. -/
theorem step_at (hA : (args m c).Real) (r : Fin 2048) (d : Fin 32) :
    k0_pay16 (F := Ideal) (Steps.code m c t) (Steps.ndist m c t) (iblk m c 2 t) (iblk m c 7 t) (ix2 r d) = Model.step (args m c) (row t r) d := by
  rw [pay16_at, pick_at m c t hA, code_at]
  rfl

/-- The count of kept rows grows by the point's. -/
theorem cntNext_at (v : FVec Ideal S1x1 .f32) :
    Steps.cntNext (F := Ideal) m c t v (ix2 0 0) = v (ix2 0 0) + ∑ r : Fin 2048, (args m c).mask (row t r) := by
  unfold Steps.cntNext
  rw [pay15_at]
  simp only [mask_at]

/-- The mask's block, reshaped to its own shape, is itself. -/
theorem pay14_eq (mk : FVec Ideal S1x2048 .f32) : k0_pay14 (F := Ideal) mk = mk := by
  unfold k0_pay14
  exact shapeCast_self ..

/-- The loss's sum grows by the point's rows. -/
theorem lossNext_at (hA : (args m c).Real) (v : FVec Ideal S1x1 .f32) :
    Steps.lossNext (F := Ideal) m c t v (ix2 0 0)
      = v (ix2 0 0) + ∑ r : Fin 2048, (args m c).mask (row t r) * ∑ d : Fin 32, Model.step (args m c) (row t r) d := by
  unfold Steps.lossNext
  rw [pay1_at, pay14_eq]
  simp only [mask_at, step_at m c t hA]

/-- An entry's count grows by the point's rows. -/
theorem countsNext_at (hA : (args m c).Real) (v : FVec Ideal S1x512 .f32) (k : Fin 512) :
    Steps.countsNext (F := Ideal) m c t v (ix2 0 k)
      = v (ix2 0 k) + ∑ r : Fin 2048, (args m c).mask (row t r) * Model.enc (args m c) (row t r) k := by
  unfold Steps.countsNext
  rw [pay2_at, pay14_eq]
  simp only [mask_at, enc_at m c t hA]

end Cert.KernelIdeal.Values
-- ==== Proof.KernelResults.lean ====
module

public import proofs.«01_k».proof.Proof.KernelBlocks

@[expose] public section

noncomputable section

namespace Cert.KernelIdeal.Results

open Idealize.ShloMosaic Idealize.ShloMosaic.TcCoe Idealize.SL.Sem
open Cert.KernelIdeal Cert.KernelIdeal.Gen Cert.KernelIdeal.Blocks Cert.KernelIdeal.Values Cert.KernelIdeal.Value

/-! ## Sums over the rows, block by block -/

/-- A function of the rows, nought past the last. -/
def ext (f : Fin 65536 → EReal) (n : ℕ) : EReal := if h : n < 65536 then f ⟨n, h⟩ else 0

/-- Below the last row it is the function itself. -/
theorem ext_val (f : Fin 65536 → EReal) (n : Fin 65536) : ext f n.val = f n := dif_pos n.isLt

/-- A block's sum is a stretch of the sum over the rows. -/
theorem block_sum (f : Fin 65536 → EReal) (t : Fin cfg0.N) :
    ∑ r : Fin 2048, f (row t r) = ∑ r ∈ Finset.range 2048, ext f (2048 * t.val + r) := by
  rw [Finset.sum_range]
  exact Finset.sum_congr rfl fun r _ => (ext_val f (row t r)).symm

/-- What starts at the first block's sum and grows by each later block's is, after each point, the sum over the rows so far. -/
theorem grown (f : Fin 65536 → EReal) (a : (j : ℕ) → 0 + j < cfg0.N → EReal)
    (h0 : ∀ h : 0 + 0 < cfg0.N, a 0 h = ∑ r : Fin 2048, f (row ⟨0, h⟩ r))
    (hs : ∀ (j : ℕ) (h : 0 + (j + 1) < cfg0.N) (t : Fin cfg0.N), t.val = j + 1 → a (j + 1) h = a j (Nat.lt_of_succ_lt h) + ∑ r : Fin 2048, f (row t r)) :
    ∀ (j : ℕ) (h : 0 + j < cfg0.N), a j h = ∑ n ∈ Finset.range (2048 * (j + 1)), ext f n
  | 0, h => by
    rw [h0 h, block_sum]
    refine Finset.sum_congr rfl fun r _ => ?_
    show ext f (2048 * 0 + r) = ext f r
    rw [Nat.mul_zero, Nat.zero_add]
  | j + 1, h => by
    have hj : j + 1 < cfg0.N := by rw [Nat.zero_add] at h; exact h
    rw [hs j h ⟨j + 1, hj⟩ rfl, grown f a h0 hs j (Nat.lt_of_succ_lt h), block_sum, Nat.mul_succ 2048 (j + 1), Finset.sum_range_add]

/-- After the last point it is the sum over all rows. -/
theorem grown_all (f : Fin 65536 → EReal) (a : (j : ℕ) → 0 + j < cfg0.N → EReal)
    (h0 : ∀ h : 0 + 0 < cfg0.N, a 0 h = ∑ r : Fin 2048, f (row ⟨0, h⟩ r))
    (hs : ∀ (j : ℕ) (h : 0 + (j + 1) < cfg0.N) (t : Fin cfg0.N), t.val = j + 1 → a (j + 1) h = a j (Nat.lt_of_succ_lt h) + ∑ r : Fin 2048, f (row t r))
    (i : ℕ) (hi : i = 31) (h : 0 + i < cfg0.N) : a i h = ∑ n : Fin 65536, f n := by
  rw [grown f a h0 hs i h, hi, show 2048 * (31 + 1) = 65536 by norm_num, Finset.sum_range]
  exact Finset.sum_congr rfl fun n _ => ext_val f n

variable (m : (ℓ : Loc nD τ sig) → Buf (Elt Ideal) ℓ) (c : Dev nD)

/-- The count starts at nought. -/
theorem zero6 : k0_pay6 (F := Ideal) (ix2 0 0) = 0 := by pointwise [k0_pay6]
/-- The loss's sum starts at nought. -/
theorem zero7 : k0_pay7 (F := Ideal) (ix2 0 0) = 0 := by pointwise [k0_pay7]
/-- Every entry's count starts at nought. -/
theorem zero8 (k : Fin 512) : k0_pay8 (F := Ideal) (ix2 0 k) = 0 := by pointwise [k0_pay8]

/-- The count of kept rows the last point leaves. -/
theorem kept_at (i : ℕ) (hi : i = 31) (h : 0 + i < cfg0.N) : (Steps.upTo (F := Ideal) m c i h).2.2.2.2.2.1 (ix2 0 0) = Model.kept (args m c) := by
  refine grown_all (args m c).mask (fun j h => (Steps.upTo (F := Ideal) m c j h).2.2.2.2.2.1 (ix2 0 0)) ?_ ?_ i hi h
  · intro h
    rw [Steps.upTo_cnt_zero, cntNext_at, zero6, zero_add]
  · intro j h t ht
    rw [Steps.upTo_cnt_succ m c j h t ht, cntNext_at]

/-- The loss's sum the last point leaves. -/
theorem total_at (hA : (args m c).Real) (i : ℕ) (hi : i = 31) (h : 0 + i < cfg0.N) : (Steps.upTo (F := Ideal) m c i h).2.2.2.2.2.2.1 (ix2 0 0) = Model.total (args m c) := by
  refine grown_all (fun n => (args m c).mask n * ∑ d : Fin 32, Model.step (args m c) n d) (fun j h => (Steps.upTo (F := Ideal) m c j h).2.2.2.2.2.2.1 (ix2 0 0)) ?_ ?_ i hi h
  · intro h
    rw [Steps.upTo_loss_zero, lossNext_at m c _ hA, zero7, zero_add]
  · intro j h t ht
    rw [Steps.upTo_loss_succ m c j h t ht, lossNext_at m c _ hA]

/-- The entries' counts the last point leaves. -/
theorem count_at (hA : (args m c).Real) (i : ℕ) (hi : i = 31) (h : 0 + i < cfg0.N) (k : Fin 512) :
    (Steps.upTo (F := Ideal) m c i h).2.2.2.2.2.2.2 (ix2 0 k) = Model.count (args m c) k := by
  refine grown_all (fun n => (args m c).mask n * Model.enc (args m c) n k) (fun j h => (Steps.upTo (F := Ideal) m c j h).2.2.2.2.2.2.2 (ix2 0 k)) ?_ ?_ i hi h
  · intro h
    rw [Steps.upTo_counts_zero, countsNext_at m c _ hA, zero8, zero_add]
  · intro j h t ht
    rw [Steps.upTo_counts_succ m c j h t ht, countsNext_at m c _ hA]

/-! ## The result arrays -/

/-- The grid has a point of number 31. -/
theorem last_lt : 0 + 31 < cfg0.N := lt_of_lt_of_eq (by decide) N_0.symm

/-- The loss, as the last point writes it. -/
theorem loss_upTo (hA : (args m c).Real) (i : ℕ) (hi : i = 31) (h : 0 + i < cfg0.N) :
    (Steps.upTo (F := Ideal) m c i h).1 (ix2 0 0) = Model.loss (args m c) := by
  have h1 := kept_at m c i hi h
  have h2 := total_at m c hA i hi h
  obtain ⟨j, rfl⟩ : ∃ j, i = j + 1 := ⟨30, hi⟩
  have hj : j + 1 < cfg0.N := by rw [Nat.zero_add] at h; exact h
  rw [Steps.upTo_last9 (F := Ideal) m c j h ⟨j + 1, hj⟩ rfl (by show (j + 1) % 32 = 31; rw [hi]), Payloads.pay4_at, h1, h2]
  rfl

/-- The perplexity, as the last point writes it. -/
theorem perplexity_upTo (hA : (args m c).Real) (i : ℕ) (hi : i = 31) (h : 0 + i < cfg0.N) :
    (Steps.upTo (F := Ideal) m c i h).2.2.1 (ix2 0 0) = Model.perplexity (args m c) := by
  have h1 := kept_at m c i hi h
  have h2 := count_at m c hA i hi h
  obtain ⟨j, rfl⟩ : ∃ j, i = j + 1 := ⟨30, hi⟩
  have hj : j + 1 < cfg0.N := by rw [Nat.zero_add] at h; exact h
  rw [Steps.upTo_last11 (F := Ideal) m c j h ⟨j + 1, hj⟩ rfl (by show (j + 1) % 32 = 31; rw [hi]), Payloads.pay5_at, h1]
  simp only [h2]
  rfl

/-- The first result's array is what the last point writes. -/
theorem G9_upTo : G9 m c = (Steps.upTo (F := Ideal) m c 31 last_lt).1 := G9_last m c

/-- The third result's array is what the last point writes. -/
theorem G11_upTo : G11 m c = (Steps.upTo (F := Ideal) m c 31 last_lt).2.2.1 := G11_last m c

/-- The first result. -/
theorem loss_at (hA : (args m c).Real) : (G9 m c : FVec Ideal S1x1 .f32) (ix2 0 0) = Model.loss (args m c) :=
  (congrFun (G9_upTo m c) (ix2 0 0)).trans (loss_upTo m c hA 31 rfl last_lt)

/-- The third result. -/
theorem perplexity_at (hA : (args m c).Real) : (G11 m c : FVec Ideal S1x1 .f32) (ix2 0 0) = Model.perplexity (args m c) :=
  (congrFun (G11_upTo m c) (ix2 0 0)).trans (perplexity_upTo m c hA 31 rfl last_lt)

/-- The point that writes a row. -/
def ptOf (n : Fin 65536) : Fin cfg0.N :=
  ⟨n.val / 2048, lt_of_lt_of_eq (by have := n.isLt; omega : n.val / 2048 < 32) N_0.symm⟩

/-- A row's place in its block. -/
def placeOf (n : Fin 65536) : Fin 2048 := ⟨n.val % 2048, Nat.mod_lt _ (by norm_num)⟩

/-- A row is its place in the block of its point. -/
theorem row_place (n : Fin 65536) : row (ptOf n) (placeOf n) = n := Fin.ext (Nat.div_add_mod n.val 2048)

/-- The second result. -/
theorem moved_at' (hA : (args m c).Real) (n : Fin 65536) (d : Fin 32) : (G10 m c : FVec Ideal S65536x32 .f32) (ix2 n d) = Model.moved (args m c) n d := by
  have hp : pt10Of (ix2 n d) = n.val / 2048 := by
    have hd := d.isLt
    show 1 * (n.val / 2048 - 0) + 1 * (d.val / 32 - 0) = n.val / 2048
    omega
  have hl : loc10Of (ix2 n d) = ix2 (placeOf n) d := by
    funext a
    apply Fin.ext
    match a with
    | ⟨0, _⟩ => rfl
    | ⟨1, _⟩ => exact Nat.mod_eq_of_lt d.isLt
  have hlt : pt10Of (ix2 n d) < cfg0.N := by rw [hp]; exact (ptOf n).isLt
  unfold G10
  rw [dif_pos hlt, hl]
  refine (congrFun (Steps.upTo10 (F := Ideal) m c _ _ (ptOf n) hp.symm) (ix2 (placeOf n) d)).trans ?_
  rw [moved_at m c _ hA, row_place]

/-- The fourth result. -/
theorem enc_at' (hA : (args m c).Real) (n : Fin 65536) (d : Fin 512) : (G12 m c : FVec Ideal S65536x512 .f32) (ix2 n d) = Model.enc (args m c) n d := by
  have hp : pt12Of (ix2 n d) = n.val / 2048 := by
    have hd := d.isLt
    show 1 * (n.val / 2048 - 0) + 1 * (d.val / 512 - 0) = n.val / 2048
    omega
  have hl : loc12Of (ix2 n d) = ix2 (placeOf n) d := by
    funext a
    apply Fin.ext
    match a with
    | ⟨0, _⟩ => rfl
    | ⟨1, _⟩ => exact Nat.mod_eq_of_lt d.isLt
  have hlt : pt12Of (ix2 n d) < cfg0.N := by rw [hp]; exact (ptOf n).isLt
  unfold G12
  rw [dif_pos hlt, hl]
  refine (congrFun (Steps.upTo12 (F := Ideal) m c _ _ (ptOf n) hp.symm) (ix2 (placeOf n) d)).trans ?_
  rw [enc_at m c _ hA, row_place]

/-- The fifth result. -/
theorem ndist_at' (hA : (args m c).Real) (n : Fin 65536) (d : Fin 512) : (G13 m c : FVec Ideal S65536x512 .f32) (ix2 n d) = -Model.dist (args m c) n d := by
  have hp : pt13Of (ix2 n d) = n.val / 2048 := by
    have hd := d.isLt
    show 1 * (n.val / 2048 - 0) + 1 * (d.val / 512 - 0) = n.val / 2048
    omega
  have hl : loc13Of (ix2 n d) = ix2 (placeOf n) d := by
    funext a
    apply Fin.ext
    match a with
    | ⟨0, _⟩ => rfl
    | ⟨1, _⟩ => exact Nat.mod_eq_of_lt d.isLt
  have hlt : pt13Of (ix2 n d) < cfg0.N := by rw [hp]; exact (ptOf n).isLt
  unfold G13
  rw [dif_pos hlt, hl]
  refine (congrFun (Steps.upTo13 (F := Ideal) m c _ _ (ptOf n) hp.symm) (ix2 (placeOf n) d)).trans ?_
  rw [ndist_at m c _ hA, row_place]

end Cert.KernelIdeal.Results
-- ==== Proof.RefHash.lean ====
module

public import proofs.«01_k».proof.Proof.Gen.ReferenceIdeal.Read
public import proofs.«01_k».proof.Proof.Words

@[expose] public section

noncomputable section

namespace Cert.ReferenceIdeal.Hash

open Idealize.ShloMosaic Idealize.ShloMosaic.TcCoe Idealize.SL.Sem Idealize.ShloMosaic.StableHlo
open Cert.ReferenceIdeal Cert.ReferenceIdeal.Gen Cert.ReferenceIdeal.Read Cert.Words

variable {F : FTy → Type} [FloatOps F]

/-- The count of the element at row `i 0` and column `i 1`, as a word. -/
def count (i : S65536x512.Idx) : BitVec 32 := BitVec.ofNat 32 ((i 0).val * 512 + (i 1).val)

/-- Before the first group the second word is the count plus the key word. -/
theorem second0 (i : S65536x512.Idx) : val_main_v43 (F := F) i = IntOp.addi (count i) 42#32 := by
  have h : val_main_v43 (F := F) i
      = IntOp.addi (IntOp.addi (IntOp.muli (BitVec.ofNat 32 (i 0).val) 512#32) (BitVec.ofNat 32 (i 1).val)) 42#32 := rfl
  rw [h]
  unfold count
  simp only [IntOp.addi, IntOp.muli]
  rw [BitVec.ofNat_add, BitVec.ofNat_mul]

/-- Before the first group the sum of the two words is nought plus the second. -/
theorem sum0 (i : S65536x512.Idx) : val_main_v44 (F := F) i = IntOp.addi 0#32 (IntOp.addi (count i) 42#32) := by
  have h : val_main_v44 (F := F) i = IntOp.addi (IntOp.addi 0#32 0#32) (val_main_v43 (F := F) i) := rfl
  rw [h, second0]
  rfl

/-- What group 1 makes of its two words. -/
theorem pair1 (i : S65536x512.Idx) :
    (val_main_v76 (F := F) i, val_main_v75 (F := F) i) = start (groupA 42#32 466689009#32 (val_main_v44 (F := F) i, val_main_v43 (F := F) i)) := rfl

/-- What group 2 makes of its two words. -/
theorem pair2 (i : S65536x512.Idx) :
    (val_main_v108 (F := F) i, val_main_v107 (F := F) i) = start (groupB 466689008#32 2#32 (val_main_v76 (F := F) i, val_main_v75 (F := F) i)) := rfl

/-- What group 3 makes of its two words. -/
theorem pair3 (i : S65536x512.Idx) :
    (val_main_v140 (F := F) i, val_main_v139 (F := F) i) = start (groupA 0#32 45#32 (val_main_v108 (F := F) i, val_main_v107 (F := F) i)) := rfl

/-- What group 4 makes of its two words. -/
theorem pair4 (i : S65536x512.Idx) :
    (val_main_v172 (F := F) i, val_main_v171 (F := F) i) = start (groupB 42#32 466689012#32 (val_main_v140 (F := F) i, val_main_v139 (F := F) i)) := rfl

/-- What group 5 makes of its two words. -/
theorem pair5 (i : S65536x512.Idx) :
    (val_main_v201 (F := F) i, val_main_v203 (F := F) i) = groupA 466689008#32 5#32 (val_main_v172 (F := F) i, val_main_v171 (F := F) i) := rfl

/-- The reference's random word of an element is the hash of its count. -/
theorem word_eq (i : S65536x512.Idx) : val_main_v204 (F := F) i = word (count i) := by
  have h : val_main_v204 (F := F) i = IntOp.xori (val_main_v201 (F := F) i, val_main_v203 (F := F) i).1 (val_main_v201 (F := F) i, val_main_v203 (F := F) i).2 := rfl
  rw [h, pair5, pair4, pair3, pair2, pair1, sum0, second0]
  rfl

/-- The uniform number the reference takes logarithms of, before it is bounded below. -/
theorem uniform_eq (i : S65536x512.Idx) : val_main_v209 (F := F) i = FloatOps.ofBits .f32 (unitBits (word (count i))) := by
  have h : val_main_v209 (F := F) i = FloatOps.ofBits .f32 (unitBits (val_main_v204 (F := F) i)) := rfl
  rw [h, word_eq]

end Cert.ReferenceIdeal.Hash
-- ==== Proof.RefNoise.lean ====
module

public import proofs.«01_k».proof.Proof.Model
public import proofs.«01_k».proof.Proof.RefHash
public import Idealize.ShloMosaic.Lib.Pointwise
public import Idealize.ShloMosaic.PureOps.Ideal.Laws

@[expose] public section

noncomputable section

namespace Cert.ReferenceIdeal.Noise

open Idealize.ShloMosaic Idealize.ShloMosaic.TcCoe
open Cert.ReferenceIdeal Cert.ReferenceIdeal.Gen Cert.ReferenceIdeal.Read Cert.Words Cert.Rows Cert.Model

/-- The count of an element from its row and column. -/
theorem count_at (n : Fin 65536) (k : Fin 512) : Hash.count (ix2 n k) = BitVec.ofNat 32 (n.val * 512 + k.val) := by
  unfold Hash.count
  have h0 : ((ix2 n k : S65536x512.Idx) 0).val = n.val := rfl
  have h1 : ((ix2 n k : S65536x512.Idx) 1).val = k.val := rfl
  rw [h0, h1]

/-- The operations from the uniform number to the noise. -/
theorem ops (i : S65536x512.Idx) : val_main_v221 (F := Ideal) i
    = -Ideal.log (-Ideal.log (max (Ideal.ofBits .f32 0x00800000#32)
        ((val_main_v209 (F := Ideal) i - Ideal.ofBits .f32 0x3F800000#32) * Ideal.ofBits .f32 0x3F800000#32 + Ideal.ofBits .f32 0x00800000#32))) := by
  rw [val_main_v221_apply, val_main_v220_apply, val_main_v219_apply, val_main_v218_apply, val_main_v217_apply, val_main_v215_apply,
    val_main_v213_apply, val_main_v211_apply, val_main_v216_apply, val_main_v214_apply, val_main_v212_apply, val_main_v210_apply]
  generalize val_main_v209 (F := Ideal) i = u
  rfl

/-- The noise. -/
theorem noise_at (n : Fin 65536) (k : Fin 512) : val_main_v221 (F := Ideal) (ix2 n k) = noise n k := by
  have hu := Hash.uniform_eq (F := Ideal) (ix2 n k)
  rw [count_at] at hu
  rw [ops, hu]
  unfold noise gumbel
  generalize word (BitVec.ofNat 32 (n.val * 512 + k.val)) = w
  refine congrArg (fun x => -Ideal.log (-Ideal.log x)) ?_
  exact bounded_below w

end Cert.ReferenceIdeal.Noise
-- ==== Proof.RefValues.lean ====
module

public import proofs.«01_k».proof.Proof.Model
public import proofs.«01_k».proof.Proof.RefNoise
public import Idealize.ShloMosaic.Lib.Pointwise
public import Idealize.ShloMosaic.Lib.Pipeline.Value
public import Idealize.ShloMosaic.PureOps.Ideal.Laws

@[expose] public section

noncomputable section

namespace Cert.ReferenceIdeal.Values

open Idealize.ShloMosaic Idealize.ShloMosaic.TcCoe
open Cert.ReferenceIdeal Cert.ReferenceIdeal.Gen Cert.ReferenceIdeal.Read Cert.Words Cert.Rows Cert.Model

/-- The argument arrays as functions of their coordinates. -/
def inputs (x0 : FVec Ideal S65536x128 .f32) (x1 : IVec S65536 1) (x2 : FVec Ideal S128x128 .f32) (x3 : FVec Ideal S128 .f32)
    (x4 : FVec Ideal S32x128 .f32) (x5 : FVec Ideal S32 .f32) (x6 : FVec Ideal S512x32 .f32) : Inputs where
  x n f := x0 (ix2 n f)
  mask n := FloatOps.uitofp (F := Ideal) .f32 (x1 (ix1 n))
  w1 h f := x2 (ix2 h f)
  b1 h := x3 (ix1 h)
  w2 d h := x4 (ix2 d h)
  b2 d := x5 (ix1 d)
  book k d := x6 (ix2 k d)

variable (x0 : FVec Ideal S65536x128 .f32) (x1 : IVec S65536 1) (x2 : FVec Ideal S128x128 .f32) (x3 : FVec Ideal S128 .f32)
  (x4 : FVec Ideal S32x128 .f32) (x5 : FVec Ideal S32 .f32) (x6 : FVec Ideal S512x32 .f32)

/-- The codes. -/
theorem code_at (n : Fin 65536) (d : Fin 32) : val_main_v11 (F := Ideal) x0 x2 x3 x4 x5 (ix2 n d) = code (inputs x0 x1 x2 x3 x4 x5 x6) n d := by
  pointwise [val_main_v11, val_main_v10, val_main_v9, val_main_v8, val_main_v7, val_main_v6, val_main_cst, val_main_v5, val_main_v4, val_main_v3, val_main_v2, val_main_v1, val_main_v0]
  rfl

/-- The squared distances. -/
theorem dist_at (n : Fin 65536) (k : Fin 512) : val_main_v25 (F := Ideal) x0 x2 x3 x4 x5 x6 (ix2 n k) = dist (inputs x0 x1 x2 x3 x4 x5 x6) n k := by
  have hc := code_at x0 x1 x2 x3 x4 x5 x6
  unfold val_main_v25 val_main_v20 val_main_v24 val_main_v23 val_main_v22 val_main_v18 val_main_v14 val_main_v13 val_main_v12
  generalize val_main_v11 (F := Ideal) x0 x2 x3 x4 x5 = z at hc ⊢
  pointwise [val_main_v19, val_main_v17, val_main_v16, val_main_v15, val_main_cst_0, val_main_cst_1, val_main_cst_2, val_main_v21]
  simp only [hc]
  rfl

/-- The logits. -/
theorem logit_at (n : Fin 65536) (k : Fin 512) : val_main_v28 (F := Ideal) x0 x2 x3 x4 x5 x6 (ix2 n k) = logit (inputs x0 x1 x2 x3 x4 x5 x6) n k := by
  have hd := dist_at x0 x1 x2 x3 x4 x5 x6
  unfold val_main_v28 val_main_v26
  generalize val_main_v25 (F := Ideal) x0 x2 x3 x4 x5 x6 = z at hd ⊢
  pointwise [val_main_v27, val_main_cst_3]
  rw [hd]
  rfl

/-- The row's largest logit, at every entry of the row. -/
theorem largest_at (n : Fin 65536) (k : Fin 512) : val_main_v31 (F := Ideal) x0 x2 x3 x4 x5 x6 (ix2 n k) = Finset.univ.fold max ⊥ (logit (inputs x0 x1 x2 x3 x4 x5 x6) n) := by
  have hl := logit_at x0 x1 x2 x3 x4 x5 x6
  unfold val_main_v31 val_main_v30 val_main_v29
  generalize val_main_v28 (F := Ideal) x0 x2 x3 x4 x5 x6 = z at hl ⊢
  pointwise [val_main_cst_4]
  simp only [hl]
  rw [← bits_bot]

/-- The logits less the row's largest. -/
theorem gap_at (n : Fin 65536) (k : Fin 512) : val_main_v32 (F := Ideal) x0 x2 x3 x4 x5 x6 (ix2 n k) = gap (inputs x0 x1 x2 x3 x4 x5 x6) n k := by
  rw [val_main_v32_apply, logit_at x0 x1, largest_at x0 x1]
  rfl

/-- The noisy logits, the logits bounded first. -/
theorem noisy_at (n : Fin 65536) (k : Fin 512) : val_main_v222 (F := Ideal) x0 x2 x3 x4 x5 x6 (ix2 n k) = noisyBounded (inputs x0 x1 x2 x3 x4 x5 x6) n k := by
  have h : val_main_v33 (F := Ideal) x0 x2 x3 x4 x5 x6 (ix2 n k)
      = min (Ideal.ofBits .f32 0x41200000#32) (max (Ideal.ofBits .f32 0xC47A0000#32) (val_main_v32 (F := Ideal) x0 x2 x3 x4 x5 x6 (ix2 n k))) := by
    rw [val_main_v33_apply, val_main_call0_v2_apply, val_main_call0_v1_apply, val_main_call0_v4_apply]
    rfl
  rw [val_main_v222_apply, Noise.noise_at, h, gap_at x0 x1]
  rfl

/-- The row's largest noisy logit, at every entry of the row. -/
theorem top_at (n : Fin 65536) (k : Fin 512) : val_main_v225 (F := Ideal) x0 x2 x3 x4 x5 x6 (ix2 n k) = Finset.univ.fold max ⊥ (noisyBounded (inputs x0 x1 x2 x3 x4 x5 x6) n) := by
  have hl := noisy_at x0 x1 x2 x3 x4 x5 x6
  unfold val_main_v225 val_main_v224 val_main_v223
  generalize val_main_v222 (F := Ideal) x0 x2 x3 x4 x5 x6 = z at hl ⊢
  pointwise [val_main_cst_66]
  simp only [hl]
  rw [← bits_bot]

/-- Whether an entry's noisy logit is the row's largest, as a bit. -/
theorem isTop_at (n : Fin 65536) (k : Fin 512) : val_main_v226 (F := Ideal) x0 x2 x3 x4 x5 x6 (ix2 n k)
    = BitVec.ofBool (decide (noisyBounded (inputs x0 x1 x2 x3 x4 x5 x6) n k = Finset.univ.fold max ⊥ (noisyBounded (inputs x0 x1 x2 x3 x4 x5 x6) n))) := by
  rw [val_main_v226_apply, noisy_at x0 x1, top_at x0 x1]
  rfl

/-- The index a row samples, as the reference computes it. -/
def sampled (n : Fin 65536) : BitVec 32 := val_main_v229 (F := Ideal) x0 x2 x3 x4 x5 x6 (ix1 n)

/-- The sampled index at every entry of the row. -/
theorem sampled_at (n : Fin 65536) (k : Fin 512) : val_main_call2_v2 (F := Ideal) x0 x2 x3 x4 x5 x6 (ix2 n k) = sampled x0 x2 x3 x4 x5 x6 n := by
  unfold val_main_call2_v2 val_main_call2_v0 sampled
  generalize val_main_v229 (F := Ideal) x0 x2 x3 x4 x5 x6 = z
  pointwise

/-- The reference's encodings: one at the sampled index. -/
theorem onehot_at (n : Fin 65536) (k : Fin 512) : val_main_v230 (F := Ideal) x0 x2 x3 x4 x5 x6 (ix2 n k)
    = if sampled x0 x2 x3 x4 x5 x6 n = BitVec.ofNat 32 k.val then 1 else 0 := by
  have h : val_main_v230 (F := Ideal) x0 x2 x3 x4 x5 x6 (ix2 n k)
      = (((BitVec.ofBool (decide (sampled x0 x2 x3 x4 x5 x6 n = BitVec.ofNat 32 k.val))).toNat : ℝ) : EReal) := by
    rw [val_main_v230_apply, val_main_call2_v4_apply, sampled_at]
    have h3 : val_main_call2_v3 (F := Ideal) (ix2 n k) = BitVec.ofNat 32 k.val := by
      rw [val_main_call2_v3_apply, val_main_call2_v1_apply]
      rfl
    rw [h3]
    unfold IntOp.cmpi
    generalize sampled x0 x2 x3 x4 x5 x6 n = a
    generalize BitVec.ofNat 32 k.val = b
    rfl
  rw [h]
  by_cases hk : sampled x0 x2 x3 x4 x5 x6 n = BitVec.ofNat 32 k.val
  · rw [if_pos hk, decide_eq_true hk]; simp
  · rw [if_neg hk, decide_eq_false hk]; simp

end Cert.ReferenceIdeal.Values
-- ==== Proof.RefResults.lean ====
module

public import proofs.«01_k».proof.Proof.RefValues

@[expose] public section

noncomputable section

namespace Cert.ReferenceIdeal.Results

open Idealize.ShloMosaic Idealize.ShloMosaic.TcCoe
open Cert.ReferenceIdeal Cert.ReferenceIdeal.Gen Cert.ReferenceIdeal.Read Cert.ReferenceIdeal.Values Cert.Rows Cert.Model

variable {x0 : FVec Ideal S65536x128 .f32} {x1 : IVec S65536 1} {x2 : FVec Ideal S128x128 .f32} {x3 : FVec Ideal S128 .f32}
  {x4 : FVec Ideal S32x128 .f32} {x5 : FVec Ideal S32 .f32} {x6 : FVec Ideal S512x32 .f32}
variable (hA : (inputs x0 x1 x2 x3 x4 x5 x6).Real)
  (hU : ∀ (n : Fin 65536) (k : Fin 512),
    noisyBounded (inputs x0 x1 x2 x3 x4 x5 x6) n k = Finset.univ.fold max ⊥ (noisyBounded (inputs x0 x1 x2 x3 x4 x5 x6) n) →
      sampled x0 x2 x3 x4 x5 x6 n = BitVec.ofNat 32 k.val)

/-- An entry's number is known from its word. -/
theorem word_inj {a b : Fin 512} (h : BitVec.ofNat 32 a.val = BitVec.ofNat 32 b.val) : a = b := by
  have h' := congrArg BitVec.toNat h
  rw [BitVec.toNat_ofNat, BitVec.toNat_ofNat] at h'
  have ha := a.isLt
  have hb := b.isLt
  exact Fin.ext (by omega)

include hA hU in
/-- The encodings. -/
theorem enc_at (n : Fin 65536) (k : Fin 512) :
    val_main_v230 (F := Ideal) x0 x2 x3 x4 x5 x6 (ix2 n k) = enc (inputs x0 x1 x2 x3 x4 x5 x6) n k := by
  rw [onehot_at]
  unfold enc
  obtain ⟨k0, hk0⟩ := exists_largest (noisyBounded (inputs x0 x1 x2 x3 x4 x5 x6) n)
  have hiff : sampled x0 x2 x3 x4 x5 x6 n = BitVec.ofNat 32 k.val
      ↔ noisy (inputs x0 x1 x2 x3 x4 x5 x6) n k = Finset.univ.fold max ⊥ (noisy (inputs x0 x1 x2 x3 x4 x5 x6) n) := by
    rw [← bounded_largest hA]
    constructor
    · intro hs
      have he : k0 = k := word_inj ((hU n k0 hk0).symm.trans hs)
      rw [← he]
      exact hk0
    · exact hU n k
  by_cases h : sampled x0 x2 x3 x4 x5 x6 n = BitVec.ofNat 32 k.val
  · rw [if_pos h, if_pos (hiff.1 h)]
  · rw [if_neg h, if_neg fun e => h (hiff.2 e)]

include hA hU in
/-- The picked entries. -/
theorem pick_at (n : Fin 65536) (d : Fin 32) :
    val_main_v231 (F := Ideal) x0 x2 x3 x4 x5 x6 (ix2 n d) = pick (inputs x0 x1 x2 x3 x4 x5 x6) n d := by
  have he := enc_at hA hU
  unfold val_main_v231
  generalize val_main_v230 (F := Ideal) x0 x2 x3 x4 x5 x6 = e at he ⊢
  pointwise
  simp only [he]
  rfl

include hA hU in
/-- The second result. -/
theorem moved_at (n : Fin 65536) (d : Fin 32) :
    val_main_v254 (F := Ideal) x0 x2 x3 x4 x5 x6 (ix2 n d) = moved (inputs x0 x1 x2 x3 x4 x5 x6) n d := by
  rw [val_main_v254_apply, val_main_v253_apply, pick_at hA hU, code_at x0 x1 x2 x3 x4 x5 x6]
  rfl

/-- The fifth result. -/
theorem negated_at (n : Fin 65536) (k : Fin 512) :
    val_main_v270 (F := Ideal) x0 x2 x3 x4 x5 x6 (ix2 n k) = -dist (inputs x0 x1 x2 x3 x4 x5 x6) n k := by
  rw [val_main_v270_apply, dist_at x0 x1 x2 x3 x4 x5 x6]
  rfl

/-- The mask as numbers. -/
theorem mask_at (n : Fin 65536) : val_main_v232 (F := Ideal) x1 (ix1 n) = (inputs x0 x1 x2 x3 x4 x5 x6).mask n := rfl

/-- The count of kept rows. -/
theorem kept_at : val_main_v233 (F := Ideal) x1 ix0 = kept (inputs x0 x1 x2 x3 x4 x5 x6) := by
  have hm := mask_at (x0 := x0) (x1 := x1) (x2 := x2) (x3 := x3) (x4 := x4) (x5 := x5) (x6 := x6)
  unfold val_main_v233
  generalize val_main_v232 (F := Ideal) x1 = e at hm ⊢
  pointwise [val_main_cst_69]
  simp only [hm]
  rfl

/-- The count of kept rows, at least one. -/
theorem keptOne_at : val_main_v234 (F := Ideal) x1 ix0 = max (kept (inputs x0 x1 x2 x3 x4 x5 x6)) (Ideal.ofBits .f32 0x3F800000#32) := by
  have hm := kept_at (x0 := x0) (x1 := x1) (x2 := x2) (x3 := x3) (x4 := x4) (x5 := x5) (x6 := x6)
  rw [val_main_v234_apply, hm]
  generalize kept (inputs x0 x1 x2 x3 x4 x5 x6) = a
  rfl

include hA hU in
/-- The loss's sum. -/
theorem total_at : val_main_v240 (F := Ideal) x0 x1 x2 x3 x4 x5 x6 ix0 = total (inputs x0 x1 x2 x3 x4 x5 x6) := by
  have hp := pick_at hA hU
  have hc := code_at x0 x1 x2 x3 x4 x5 x6
  have hm := mask_at (x0 := x0) (x1 := x1) (x2 := x2) (x3 := x3) (x4 := x4) (x5 := x5) (x6 := x6)
  rw [← total_eq hA]
  unfold val_main_v240 val_main_v239 val_main_v238 val_main_v237 val_main_v236 val_main_v235
  generalize val_main_v231 (F := Ideal) x0 x2 x3 x4 x5 x6 = p at hp ⊢
  generalize val_main_v11 (F := Ideal) x0 x2 x3 x4 x5 = z at hc ⊢
  generalize val_main_v232 (F := Ideal) x1 = e at hm ⊢
  pointwise [val_main_cst_71]
  simp only [hm, hp, hc]
  rfl

include hA hU in
/-- The loss's second sum is the first. -/
theorem total_again : val_main_v248 (F := Ideal) x0 x1 x2 x3 x4 x5 x6 ix0 = total (inputs x0 x1 x2 x3 x4 x5 x6) := by
  have hp := pick_at hA hU
  have hc := code_at x0 x1 x2 x3 x4 x5 x6
  have hm := mask_at (x0 := x0) (x1 := x1) (x2 := x2) (x3 := x3) (x4 := x4) (x5 := x5) (x6 := x6)
  rw [← total_eq hA]
  unfold val_main_v248 val_main_v247 val_main_v246 val_main_v245 val_main_v244 val_main_v243
  generalize val_main_v231 (F := Ideal) x0 x2 x3 x4 x5 x6 = p at hp ⊢
  generalize val_main_v11 (F := Ideal) x0 x2 x3 x4 x5 = z at hc ⊢
  generalize val_main_v232 (F := Ideal) x1 = e at hm ⊢
  pointwise [val_main_cst_73]
  simp only [hm, hp, hc]
  rfl

include hA hU in
/-- The first result. -/
theorem loss_at : val_main_v268 (F := Ideal) x0 x1 x2 x3 x4 x5 x6 (ix2 0 0) = loss (inputs x0 x1 x2 x3 x4 x5 x6) := by
  have hk := keptOne_at (x0 := x0) (x1 := x1) (x2 := x2) (x3 := x3) (x4 := x4) (x5 := x5) (x6 := x6)
  have h0 : val_main_v268 (F := Ideal) x0 x1 x2 x3 x4 x5 x6 (ix2 0 0) = val_main_v252 (F := Ideal) x0 x1 x2 x3 x4 x5 x6 ix0 := by
    unfold val_main_v268
    generalize val_main_v252 (F := Ideal) x0 x1 x2 x3 x4 x5 x6 = e
    pointwise
  rw [h0, val_main_v252_apply, val_main_v251_apply, val_main_v250_apply, val_main_v242_apply, val_main_v249_apply, val_main_v241_apply,
    total_at hA hU, total_again hA hU, hk]
  unfold loss
  generalize total (inputs x0 x1 x2 x3 x4 x5 x6) = a
  generalize kept (inputs x0 x1 x2 x3 x4 x5 x6) = b
  rfl

include hA hU in
/-- How many kept rows pick an entry. -/
theorem count_at (k : Fin 512) : val_main_v258 (F := Ideal) x0 x1 x2 x3 x4 x5 x6 (ix1 k) = count (inputs x0 x1 x2 x3 x4 x5 x6) k := by
  have he := enc_at hA hU
  have hm := mask_at (x0 := x0) (x1 := x1) (x2 := x2) (x3 := x3) (x4 := x4) (x5 := x5) (x6 := x6)
  unfold val_main_v258 val_main_v257 val_main_v256 val_main_v255
  generalize val_main_v230 (F := Ideal) x0 x2 x3 x4 x5 x6 = p at he ⊢
  generalize val_main_v232 (F := Ideal) x1 = e at hm ⊢
  pointwise [val_main_cst_76]
  simp only [hm, he]
  unfold Model.count
  exact Finset.sum_congr rfl fun n _ => mul_comm _ _

include hA hU in
/-- The share of kept rows that pick an entry. -/
theorem share_at (k : Fin 512) : val_main_v260 (F := Ideal) x0 x1 x2 x3 x4 x5 x6 (ix1 k)
    = Ideal.div (count (inputs x0 x1 x2 x3 x4 x5 x6) k) (max (kept (inputs x0 x1 x2 x3 x4 x5 x6)) (Ideal.ofBits .f32 0x3F800000#32)) := by
  have hk := keptOne_at (x0 := x0) (x1 := x1) (x2 := x2) (x3 := x3) (x4 := x4) (x5 := x5) (x6 := x6)
  have h9 : val_main_v259 (F := Ideal) x1 (ix1 k) = val_main_v234 (F := Ideal) x1 ix0 := by
    unfold val_main_v259
    generalize val_main_v234 (F := Ideal) x1 = e
    pointwise
  rw [val_main_v260_apply, count_at hA hU, h9, hk]
  generalize count (inputs x0 x1 x2 x3 x4 x5 x6) k = a
  generalize kept (inputs x0 x1 x2 x3 x4 x5 x6) = b
  rfl

include hA hU in
/-- The third result. -/
theorem perplexity_at : val_main_v269 (F := Ideal) x0 x1 x2 x3 x4 x5 x6 (ix2 0 0) = perplexity (inputs x0 x1 x2 x3 x4 x5 x6) := by
  have hs := share_at hA hU
  have h0 : val_main_v269 (F := Ideal) x0 x1 x2 x3 x4 x5 x6 (ix2 0 0) = val_main_v267 (F := Ideal) x0 x1 x2 x3 x4 x5 x6 ix0 := by
    unfold val_main_v269
    generalize val_main_v267 (F := Ideal) x0 x1 x2 x3 x4 x5 x6 = e
    pointwise
  have h1 : ∀ k : Fin 512, val_main_v264 (F := Ideal) x0 x1 x2 x3 x4 x5 x6 (ix1 k)
      = val_main_v260 (F := Ideal) x0 x1 x2 x3 x4 x5 x6 (ix1 k) * Ideal.log (val_main_v260 (F := Ideal) x0 x1 x2 x3 x4 x5 x6 (ix1 k) + Ideal.ofBits .f32 0x2EDBE6FF#32) := by
    intro k
    rw [val_main_v264_apply, val_main_v263_apply, val_main_v262_apply, val_main_v261_apply]
    generalize val_main_v260 (F := Ideal) x0 x1 x2 x3 x4 x5 x6 (ix1 k) = a
    rfl
  have h2 : val_main_v265 (F := Ideal) x0 x1 x2 x3 x4 x5 x6 ix0 = ∑ k : Fin 512, val_main_v264 (F := Ideal) x0 x1 x2 x3 x4 x5 x6 (ix1 k) := by
    unfold val_main_v265
    generalize val_main_v264 (F := Ideal) x0 x1 x2 x3 x4 x5 x6 = e
    pointwise [val_main_cst_78]
  have h3 : val_main_v267 (F := Ideal) x0 x1 x2 x3 x4 x5 x6 ix0 = Ideal.exp (-val_main_v265 (F := Ideal) x0 x1 x2 x3 x4 x5 x6 ix0) := by
    rw [val_main_v267_apply, val_main_v266_apply]
    generalize val_main_v265 (F := Ideal) x0 x1 x2 x3 x4 x5 x6 ix0 = e
    rfl
  rw [h0, h3, h2, ← zero_sub]
  unfold perplexity
  refine congrArg (fun v => Ideal.exp (0 - v)) (Finset.sum_congr rfl fun k _ => ?_)
  rw [h1, hs]

end Cert.ReferenceIdeal.Results
-- ==== Proof.Predicate.lean ====
module

public import proofs.«01_k».proof.Proof.Gen.Pre_finite_untied
public import proofs.«01_k».proof.Proof.Gen.ReferenceIdeal.Read

@[expose] public section

noncomputable section

namespace Cert.Predicate

open Idealize.ShloMosaic Idealize.ShloMosaic.TcCoe
open Cert.ReferenceIdeal Cert.ReferenceIdeal.Gen Cert.ReferenceIdeal.Read
open Cert.Pre_finite_untied (fn fn_part1 fn_part2 fn_part3 fn_part4 fn_part5 fn_part6 fn_part7 fn_part8 fn_part9 fn_part10 fn_part11 fn_part12 fn_part13)

variable {F : FTy → Type} [FloatOps F]
variable (x0 : FVec F S65536x128 .f32) (x1 : IVec S65536 1) (x2 : FVec F S128x128 .f32) (x3 : FVec F S128 .f32)
  (x4 : FVec F S32x128 .f32) (x5 : FVec F S32 .f32) (x6 : FVec F S512x32 .f32)

/-- The predicate's first operations are the reference's. -/
theorem step0 : fn (F := F) x0 x1 x2 x3 x4 x5 x6 = fn_part1 (F := F) x0 x2 x3 x4 x5 x6 (val_main_v11 (F := F) x0 x2 x3 x4 x5) (val_main_v20 (F := F) x0 x2 x3 x4 x5 x6) := rfl

/-- The predicate's next operations are the reference's. -/
theorem step1 : fn_part1 (F := F) x0 x2 x3 x4 x5 x6 (val_main_v11 (F := F) x0 x2 x3 x4 x5) (val_main_v20 (F := F) x0 x2 x3 x4 x5 x6) = fn_part2 (F := F) x0 x2 x3 x4 x5 x6 (val_main_v33 (F := F) x0 x2 x3 x4 x5 x6) (val_main_v34 (F := F)) (val_main_v35 (F := F)) (val_main_v36 (F := F)) (val_main_v37 (F := F)) := rfl

/-- The predicate's next operations are the reference's. -/
theorem step2 : fn_part2 (F := F) x0 x2 x3 x4 x5 x6 (val_main_v33 (F := F) x0 x2 x3 x4 x5 x6) (val_main_v34 (F := F)) (val_main_v35 (F := F)) (val_main_v36 (F := F)) (val_main_v37 (F := F)) = fn_part3 (F := F) x0 x2 x3 x4 x5 x6 (val_main_v33 (F := F) x0 x2 x3 x4 x5 x6) (val_main_v51 (F := F)) (val_main_v53 (F := F)) (val_main_v55 (F := F)) := rfl

/-- The predicate's next operations are the reference's. -/
theorem step3 : fn_part3 (F := F) x0 x2 x3 x4 x5 x6 (val_main_v33 (F := F) x0 x2 x3 x4 x5 x6) (val_main_v51 (F := F)) (val_main_v53 (F := F)) (val_main_v55 (F := F)) = fn_part4 (F := F) x0 x2 x3 x4 x5 x6 (val_main_v33 (F := F) x0 x2 x3 x4 x5 x6) (val_main_v71 (F := F)) (val_main_v73 (F := F)) (val_main_c_19 (F := F)) := rfl

/-- The predicate's next operations are the reference's. -/
theorem step4 : fn_part4 (F := F) x0 x2 x3 x4 x5 x6 (val_main_v33 (F := F) x0 x2 x3 x4 x5 x6) (val_main_v71 (F := F)) (val_main_v73 (F := F)) (val_main_c_19 (F := F)) = fn_part5 (F := F) x0 x2 x3 x4 x5 x6 (val_main_v33 (F := F) x0 x2 x3 x4 x5 x6) (val_main_v89 (F := F)) (val_main_v90 (F := F)) (val_main_v92 (F := F)) := rfl

/-- The predicate's next operations are the reference's. -/
theorem step5 : fn_part5 (F := F) x0 x2 x3 x4 x5 x6 (val_main_v33 (F := F) x0 x2 x3 x4 x5 x6) (val_main_v89 (F := F)) (val_main_v90 (F := F)) (val_main_v92 (F := F)) = fn_part6 (F := F) x0 x2 x3 x4 x5 x6 (val_main_v33 (F := F) x0 x2 x3 x4 x5 x6) (val_main_v107 (F := F)) (val_main_v108 (F := F)) (val_main_v110 (F := F)) := rfl

/-- The predicate's next operations are the reference's. -/
theorem step6 : fn_part6 (F := F) x0 x2 x3 x4 x5 x6 (val_main_v33 (F := F) x0 x2 x3 x4 x5 x6) (val_main_v107 (F := F)) (val_main_v108 (F := F)) (val_main_v110 (F := F)) = fn_part7 (F := F) x0 x2 x3 x4 x5 x6 (val_main_v33 (F := F) x0 x2 x3 x4 x5 x6) (val_main_v128 (F := F)) (val_main_v129 (F := F)) := rfl

/-- The predicate's next operations are the reference's. -/
theorem step7 : fn_part7 (F := F) x0 x2 x3 x4 x5 x6 (val_main_v33 (F := F) x0 x2 x3 x4 x5 x6) (val_main_v128 (F := F)) (val_main_v129 (F := F)) = fn_part8 (F := F) x0 x2 x3 x4 x5 x6 (val_main_v33 (F := F) x0 x2 x3 x4 x5 x6) (val_main_v146 (F := F)) (val_main_v147 (F := F)) := rfl

/-- The predicate's next operations are the reference's. -/
theorem step8 : fn_part8 (F := F) x0 x2 x3 x4 x5 x6 (val_main_v33 (F := F) x0 x2 x3 x4 x5 x6) (val_main_v146 (F := F)) (val_main_v147 (F := F)) = fn_part9 (F := F) x0 x2 x3 x4 x5 x6 (val_main_v33 (F := F) x0 x2 x3 x4 x5 x6) (val_main_v161 (F := F)) (val_main_v163 (F := F)) (val_main_v165 (F := F)) := rfl

/-- The predicate's next operations are the reference's. -/
theorem step9 : fn_part9 (F := F) x0 x2 x3 x4 x5 x6 (val_main_v33 (F := F) x0 x2 x3 x4 x5 x6) (val_main_v161 (F := F)) (val_main_v163 (F := F)) (val_main_v165 (F := F)) = fn_part10 (F := F) x0 x2 x3 x4 x5 x6 (val_main_v33 (F := F) x0 x2 x3 x4 x5 x6) (val_main_v179 (F := F)) (val_main_v181 (F := F)) (val_main_v183 (F := F)) := rfl

/-- The predicate's next operations are the reference's. -/
theorem step10 : fn_part10 (F := F) x0 x2 x3 x4 x5 x6 (val_main_v33 (F := F) x0 x2 x3 x4 x5 x6) (val_main_v179 (F := F)) (val_main_v181 (F := F)) (val_main_v183 (F := F)) = fn_part11 (F := F) x0 x2 x3 x4 x5 x6 (val_main_v33 (F := F) x0 x2 x3 x4 x5 x6) (val_main_v199 (F := F)) (val_main_v201 (F := F)) (val_main_c_59 (F := F)) := rfl

/-- The predicate's next operations are the reference's. -/
theorem step11 : fn_part11 (F := F) x0 x2 x3 x4 x5 x6 (val_main_v33 (F := F) x0 x2 x3 x4 x5 x6) (val_main_v199 (F := F)) (val_main_v201 (F := F)) (val_main_c_59 (F := F)) = fn_part12 (F := F) x0 x2 x3 x4 x5 x6 (val_main_v33 (F := F) x0 x2 x3 x4 x5 x6) (val_main_v219 (F := F)) := rfl

/-- The predicate's last operations: finiteness of the arguments, and at every entry of a row's noisy logits
    either not the row's largest or the reference's index. -/
theorem last : fn_part12 (F := F) x0 x2 x3 x4 x5 x6 (val_main_v33 (F := F) x0 x2 x3 x4 x5 x6) (val_main_v219 (F := F))
    = fn_part13 (F := F) x2 x3 x4 x5 x6 (val_main_v226 (F := F) x0 x2 x3 x4 x5 x6)
        (cmpi .eq (val_main_v227 (F := F)) (val_main_call2_v2 (F := F) x0 x2 x3 x4 x5 x6)) (Host.absf x0) (constant S_ .f32 0x7F800000#32) := rfl

/-- The whole predicate through the reference's values. -/
theorem fn_eq : fn (F := F) x0 x1 x2 x3 x4 x5 x6
    = fn_part13 (F := F) x2 x3 x4 x5 x6 (val_main_v226 (F := F) x0 x2 x3 x4 x5 x6)
        (cmpi .eq (val_main_v227 (F := F)) (val_main_call2_v2 (F := F) x0 x2 x3 x4 x5 x6)) (Host.absf x0) (constant S_ .f32 0x7F800000#32) := by
  rw [step0, step1, step2, step3, step4, step5, step6, step7, step8, step9, step10, step11, last]

end Cert.Predicate
-- ==== Proof.Hypotheses.lean ====
module

public import proofs.«01_k».proof.Proof.RefValues
public import proofs.«01_k».proof.Proof.Predicate

@[expose] public section

noncomputable section

namespace Cert.Hypotheses

open Idealize.ShloMosaic Idealize.ShloMosaic.TcCoe
open Cert.ReferenceIdeal Cert.ReferenceIdeal.Gen Cert.ReferenceIdeal.Read Cert.ReferenceIdeal.Values Cert.Rows Cert.Model

/-- A bit that is one states what it was made of. -/
theorem of_bit {p : Prop} [Decidable p] (h : BitVec.ofBool (decide p) = 1#1) : p := by
  by_contra hp
  rw [decide_eq_false hp] at h
  exact absurd h (by decide)

/-- An element whose absolute value compares below plus infinity is real. -/
theorem real_of (a : EReal) (h : FloatOps.cmpf (F := Ideal) (φ := .f32) .olt (FloatOps.hostAbsf (F := Ideal) (φ := .f32) a) (FloatOps.ofBits (F := Ideal) .f32 0x7F800000#32) = 1#1) : Fin' a := by
  have h' : BitVec.ofBool (decide (max a (-a) < Ideal.ofBits .f32 0x7F800000#32)) = 1#1 := h
  rw [bits_top] at h'
  exact Fin'.of_abs_lt (of_bit h')

variable (x0 : FVec Ideal S65536x128 .f32) (x1 : IVec S65536 1) (x2 : FVec Ideal S128x128 .f32) (x3 : FVec Ideal S128 .f32)
  (x4 : FVec Ideal S32x128 .f32) (x5 : FVec Ideal S32 .f32) (x6 : FVec Ideal S512x32 .f32)

/-- The precondition, on argument arrays. -/
def Holds : Prop :=
  (Cert.Pre_finite_untied.fn (F := Ideal) x0 x1 x2 x3 x4 x5 x6).1 = (fun _ => 1#1)
  ∧ (Cert.Pre_finite_untied.fn (F := Ideal) x0 x1 x2 x3 x4 x5 x6).2.1 = (fun _ => 1#1)
  ∧ (Cert.Pre_finite_untied.fn (F := Ideal) x0 x1 x2 x3 x4 x5 x6).2.2.1 = (fun _ => 1#1)
  ∧ (Cert.Pre_finite_untied.fn (F := Ideal) x0 x1 x2 x3 x4 x5 x6).2.2.2.1 = (fun _ => 1#1)
  ∧ (Cert.Pre_finite_untied.fn (F := Ideal) x0 x1 x2 x3 x4 x5 x6).2.2.2.2.1 = (fun _ => 1#1)
  ∧ (Cert.Pre_finite_untied.fn (F := Ideal) x0 x1 x2 x3 x4 x5 x6).2.2.2.2.2.1 = (fun _ => 1#1)
  ∧ (Cert.Pre_finite_untied.fn (F := Ideal) x0 x1 x2 x3 x4 x5 x6).2.2.2.2.2.2 = (fun _ => 1#1)

variable {x0 x1 x2 x3 x4 x5 x6}

/-- Under the precondition every argument is real. -/
theorem Holds.real (h : Holds x0 x1 x2 x3 x4 x5 x6) : (inputs x0 x1 x2 x3 x4 x5 x6).Real := by
  unfold Holds at h
  rw [Cert.Predicate.fn_eq] at h
  generalize val_main_v226 (F := Ideal) x0 x2 x3 x4 x5 x6 = p at h
  generalize cmpi .eq (val_main_v227 (F := Ideal)) (val_main_call2_v2 (F := Ideal) x0 x2 x3 x4 x5 x6) = q at h
  unfold Cert.Pre_finite_untied.fn_part13 at h
  dsimp only at h
  obtain ⟨h0, h2, h3, h4, h5, h6, -⟩ := h
  exact
    { x := fun n f => real_of _ (congrFun h0 (ix2 n f))
      mask := fun n => ⟨_, rfl⟩
      w1 := fun a f => real_of _ (congrFun h2 (ix2 a f))
      b1 := fun a => real_of _ (congrFun h3 (ix1 a))
      w2 := fun d a => real_of _ (congrFun h4 (ix2 d a))
      b2 := fun d => real_of _ (congrFun h5 (ix1 d))
      book := fun k d => real_of _ (congrFun h6 (ix2 k d)) }

/-- Two bits' law: not the first, or the second, being one, the second is one where the first is. -/
theorem second_of {a b : BitVec 1} (h : IntOp.ori (~~~a) b = 1#1) (ha : a = 1#1) : b = 1#1 := by
  subst ha
  revert h
  revert b
  decide

/-- Under the precondition a largest noisy logit is at the index the reference samples. -/
theorem Holds.untied (h : Holds x0 x1 x2 x3 x4 x5 x6) (n : Fin 65536) (k : Fin 512)
    (hk : noisyBounded (inputs x0 x1 x2 x3 x4 x5 x6) n k = Finset.univ.fold max ⊥ (noisyBounded (inputs x0 x1 x2 x3 x4 x5 x6) n)) :
    sampled x0 x2 x3 x4 x5 x6 n = BitVec.ofNat 32 k.val := by
  have ht := isTop_at x0 x1 x2 x3 x4 x5 x6 n k
  rw [decide_eq_true hk] at ht
  have hs := sampled_at x0 x2 x3 x4 x5 x6 n k
  have hi : val_main_v227 (F := Ideal) (ix2 n k) = BitVec.ofNat 32 k.val := val_main_v227_apply (ix2 n k)
  unfold Holds at h
  rw [Cert.Predicate.fn_eq] at h
  generalize val_main_v226 (F := Ideal) x0 x2 x3 x4 x5 x6 = p at h ht
  generalize val_main_v227 (F := Ideal) = q at h hi
  generalize val_main_call2_v2 (F := Ideal) x0 x2 x3 x4 x5 x6 = s at h hs
  unfold Cert.Pre_finite_untied.fn_part13 at h
  dsimp only at h
  have h6 := congrFun h.2.2.2.2.2.2 (ix2 n k)
  have h7 : IntOp.ori (~~~(p (ix2 n k))) (IntOp.cmpi .eq (q (ix2 n k)) (s (ix2 n k))) = 1#1 := h6
  have h8 := second_of h7 ht
  rw [hi, hs] at h8
  have h9 : BitVec.ofBool (BitVec.ofNat 32 k.val == sampled x0 x2 x3 x4 x5 x6 n) = 1#1 := h8
  generalize sampled x0 x2 x3 x4 x5 x6 n = a at h9 ⊢
  generalize BitVec.ofNat 32 k.val = b at h9 ⊢
  by_contra hne
  rw [beq_eq_false_iff_ne.2 (fun e => hne e.symm)] at h9
  exact absurd h9 (by decide)

end Cert.Hypotheses
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_untied
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelResults
public import proofs.«01_k».proof.Proof.RefResults
public import proofs.«01_k».proof.Proof.Hypotheses
public import Idealize.ShloMosaic.Adequacy
public import Idealize.ShloMosaic.Init

@[expose] public section

noncomputable section

namespace Cert.Proof

open Idealize.ShloMosaic Idealize.SL.Sem Idealize.ShloMosaic.StableHlo

section Agree

variable (m : (ℓ : Loc Cert.KernelIdeal.nD Cert.KernelIdeal.τ Cert.KernelIdeal.sig) → Buf (Elt Ideal) ℓ) (c : Dev Cert.KernelIdeal.nD)

/-- Argument 0 at a device. -/
abbrev x0 : FVec Ideal Cert.ReferenceIdeal.S65536x128 .f32 := m ((c.tc : Thread Cert.KernelIdeal.nD Cert.KernelIdeal.τ).loc Cert.KernelIdeal.main_arg0)
/-- Argument 1 at a device. -/
abbrev x1 : IVec Cert.ReferenceIdeal.S65536 1 := m ((c.tc : Thread Cert.KernelIdeal.nD Cert.KernelIdeal.τ).loc Cert.KernelIdeal.main_arg1)
/-- Argument 2 at a device. -/
abbrev x2 : FVec Ideal Cert.ReferenceIdeal.S128x128 .f32 := m ((c.tc : Thread Cert.KernelIdeal.nD Cert.KernelIdeal.τ).loc Cert.KernelIdeal.main_arg2)
/-- Argument 3 at a device. -/
abbrev x3 : FVec Ideal Cert.ReferenceIdeal.S128 .f32 := m ((c.tc : Thread Cert.KernelIdeal.nD Cert.KernelIdeal.τ).loc Cert.KernelIdeal.main_arg3)
/-- Argument 4 at a device. -/
abbrev x4 : FVec Ideal Cert.ReferenceIdeal.S32x128 .f32 := m ((c.tc : Thread Cert.KernelIdeal.nD Cert.KernelIdeal.τ).loc Cert.KernelIdeal.main_arg4)
/-- Argument 5 at a device. -/
abbrev x5 : FVec Ideal Cert.ReferenceIdeal.S32 .f32 := m ((c.tc : Thread Cert.KernelIdeal.nD Cert.KernelIdeal.τ).loc Cert.KernelIdeal.main_arg5)
/-- Argument 6 at a device. -/
abbrev x6 : FVec Ideal Cert.ReferenceIdeal.S512x32 .f32 := m ((c.tc : Thread Cert.KernelIdeal.nD Cert.KernelIdeal.τ).loc Cert.KernelIdeal.main_arg6)

variable {y0 : FVec Ideal Cert.ReferenceIdeal.S65536x128 .f32} {y1 : IVec Cert.ReferenceIdeal.S65536 1} {y2 : FVec Ideal Cert.ReferenceIdeal.S128x128 .f32} {y3 : FVec Ideal Cert.ReferenceIdeal.S128 .f32} {y4 : FVec Ideal Cert.ReferenceIdeal.S32x128 .f32} {y5 : FVec Ideal Cert.ReferenceIdeal.S32 .f32} {y6 : FVec Ideal Cert.ReferenceIdeal.S512x32 .f32}
variable (h : Cert.Hypotheses.Holds (x0 m c) (x1 m c) (x2 m c) (x3 m c) (x4 m c) (x5 m c) (x6 m c))

/-- The kernel's arguments are the reference's. -/
theorem inputs_eq : Cert.KernelIdeal.Values.args m c = Cert.ReferenceIdeal.Values.inputs (x0 m c) (x1 m c) (x2 m c) (x3 m c) (x4 m c) (x5 m c) (x6 m c) := rfl

include h

/-- Where the precondition holds, the arguments are real. -/
theorem args_real : (Cert.KernelIdeal.Values.args m c).Real := h.real

/-- The two programs' loss agree. -/
theorem loss_agree (e0 : y0 = x0 m c) (e1 : y1 = x1 m c) (e2 : y2 = x2 m c) (e3 : y3 = x3 m c) (e4 : y4 = x4 m c) (e5 : y5 = x5 m c) (e6 : y6 = x6 m c) :
    (Cert.ReferenceIdeal.Read.val_main_v268 (F := Ideal) y0 y1 y2 y3 y4 y5 y6 : FVec Ideal Cert.ReferenceIdeal.S1x1 .f32) = Cert.KernelIdeal.Value.G9 m c := by
  rw [e0, e1, e2, e3, e4, e5, e6]
  funext i
  have hi : i = ix2 (0 : Fin 1) (0 : Fin 1) := by
    funext a
    match a with
    | ⟨0, _⟩ => exact Subsingleton.elim (α := Fin 1) _ _
    | ⟨1, _⟩ => exact Subsingleton.elim (α := Fin 1) _ _
  rw [hi]
  exact (Cert.ReferenceIdeal.Results.loss_at h.real h.untied).trans (Cert.KernelIdeal.Results.loss_at m c (args_real m c h)).symm

/-- The two programs' quantized agree. -/
theorem quantized_agree (e0 : y0 = x0 m c) (e2 : y2 = x2 m c) (e3 : y3 = x3 m c) (e4 : y4 = x4 m c) (e5 : y5 = x5 m c) (e6 : y6 = x6 m c) :
    (Cert.ReferenceIdeal.Read.val_main_v254 (F := Ideal) y0 y2 y3 y4 y5 y6 : FVec Ideal Cert.ReferenceIdeal.S65536x32 .f32) = Cert.KernelIdeal.Value.G10 m c := by
  rw [e0, e2, e3, e4, e5, e6]
  funext i
  obtain ⟨n, k, rfl⟩ : ∃ (n : Fin 65536) (k : Fin 32), i = ix2 n k := ⟨i 0, i 1, by
    funext a
    match a with
    | ⟨0, _⟩ => rfl
    | ⟨1, _⟩ => rfl⟩
  exact (Cert.ReferenceIdeal.Results.moved_at h.real h.untied n k).trans (Cert.KernelIdeal.Results.moved_at' m c (args_real m c h) n k).symm

/-- The two programs' perplexity agree. -/
theorem perplexity_agree (e0 : y0 = x0 m c) (e1 : y1 = x1 m c) (e2 : y2 = x2 m c) (e3 : y3 = x3 m c) (e4 : y4 = x4 m c) (e5 : y5 = x5 m c) (e6 : y6 = x6 m c) :
    (Cert.ReferenceIdeal.Read.val_main_v269 (F := Ideal) y0 y1 y2 y3 y4 y5 y6 : FVec Ideal Cert.ReferenceIdeal.S1x1 .f32) = Cert.KernelIdeal.Value.G11 m c := by
  rw [e0, e1, e2, e3, e4, e5, e6]
  funext i
  have hi : i = ix2 (0 : Fin 1) (0 : Fin 1) := by
    funext a
    match a with
    | ⟨0, _⟩ => exact Subsingleton.elim (α := Fin 1) _ _
    | ⟨1, _⟩ => exact Subsingleton.elim (α := Fin 1) _ _
  rw [hi]
  exact (Cert.ReferenceIdeal.Results.perplexity_at h.real h.untied).trans (Cert.KernelIdeal.Results.perplexity_at m c (args_real m c h)).symm

/-- The two programs' encodings agree. -/
theorem encodings_agree (e0 : y0 = x0 m c) (e2 : y2 = x2 m c) (e3 : y3 = x3 m c) (e4 : y4 = x4 m c) (e5 : y5 = x5 m c) (e6 : y6 = x6 m c) :
    (Cert.ReferenceIdeal.Read.val_main_v230 (F := Ideal) y0 y2 y3 y4 y5 y6 : FVec Ideal Cert.ReferenceIdeal.S65536x512 .f32) = Cert.KernelIdeal.Value.G12 m c := by
  rw [e0, e2, e3, e4, e5, e6]
  funext i
  obtain ⟨n, k, rfl⟩ : ∃ (n : Fin 65536) (k : Fin 512), i = ix2 n k := ⟨i 0, i 1, by
    funext a
    match a with
    | ⟨0, _⟩ => rfl
    | ⟨1, _⟩ => rfl⟩
  exact (Cert.ReferenceIdeal.Results.enc_at h.real h.untied n k).trans (Cert.KernelIdeal.Results.enc_at' m c (args_real m c h) n k).symm

/-- The two programs' distances agree. -/
theorem distances_agree (e0 : y0 = x0 m c) (e2 : y2 = x2 m c) (e3 : y3 = x3 m c) (e4 : y4 = x4 m c) (e5 : y5 = x5 m c) (e6 : y6 = x6 m c) :
    (Cert.ReferenceIdeal.Read.val_main_v270 (F := Ideal) y0 y2 y3 y4 y5 y6 : FVec Ideal Cert.ReferenceIdeal.S65536x512 .f32) = Cert.KernelIdeal.Value.G13 m c := by
  rw [e0, e2, e3, e4, e5, e6]
  funext i
  obtain ⟨n, k, rfl⟩ : ∃ (n : Fin 65536) (k : Fin 512), i = ix2 n k := ⟨i 0, i 1, by
    funext a
    match a with
    | ⟨0, _⟩ => rfl
    | ⟨1, _⟩ => rfl⟩
  exact (Cert.ReferenceIdeal.Results.negated_at n k).trans (Cert.KernelIdeal.Results.ndist_at' m c (args_real m c h) n k).symm

end Agree

/-- The kernel terminates, keeps its arguments and leaves every counter at nought. -/
theorem kernel_frame : Cert.quiescent_Kernel (hKernel := Cert.Kernel.Gen.facts) := fun m g _ => Cert.Kernel.Gen.frame m g

/-- So does the kernel over the extended reals. -/
theorem kernelIdeal_frame : Cert.quiescent_KernelIdeal (hKernelIdeal := Cert.KernelIdeal.Gen.facts) := fun m g _ => Cert.KernelIdeal.Gen.frame m g

/-- And in particular where the precondition holds. -/
theorem kernelIdeal_frame_pre : Cert.quiescent_KernelIdeal_pre_finite_untied (hKernelIdeal := Cert.KernelIdeal.Gen.facts) (hPre_finite_untied := Cert.Pre_finite_untied.Gen.facts) :=
  fun m g _ => Cert.KernelIdeal.Gen.frame m g

/-- The two programs compute the same five results wherever the precondition holds. -/
theorem agree : Cert.algebraic_KernelIdeal_ReferenceIdeal_pre_finite_untied (hKernelIdeal := Cert.KernelIdeal.Gen.facts)
    (hReferenceIdeal := Cert.ReferenceIdeal.Gen.facts) (hPre_finite_untied := Cert.Pre_finite_untied.Gen.facts) := by
  intro m g m' g' hp hargs
  refine ⟨fun c => Cert.KernelIdeal.Value.G9 m c, fun c => Cert.KernelIdeal.Value.G10 m c, fun c => Cert.KernelIdeal.Value.G11 m c,
    fun c => Cert.KernelIdeal.Value.G12 m c, fun c => Cert.KernelIdeal.Value.G13 m c, Cert.KernelIdeal.Value.run m g,
    (θ_run Cert.ReferenceIdeal.defs _ _).mono (fun r hr c => ?_) (Cert.ReferenceIdeal.Value.run (F := Ideal) m' g')⟩
  have h : Cert.Hypotheses.Holds (x0 m c) (x1 m c) (x2 m c) (x3 m c) (x4 m c) (x5 m c) (x6 m c) := hp c
  obtain ⟨ha0, ha1, ha2, ha3, ha4, ha5, ha6⟩ := hargs c
  obtain ⟨hr0, hr1, hr2, hr3, hr4, hk⟩ := hr c
  refine ⟨hr0.trans ?_, hr1.trans ?_, hr2.trans ?_, hr3.trans ?_, hr4.trans ?_, hk⟩
  · exact (Cert.ReferenceIdeal.Read.val_main_v268_eq (F := Ideal) (launchContents m' c)).trans
      (loss_agree m c h ha0 ha1 ha2 ha3 ha4 ha5 ha6)
  · exact (Cert.ReferenceIdeal.Read.val_main_v254_eq (F := Ideal) (launchContents m' c)).trans
      (quantized_agree m c h ha0 ha2 ha3 ha4 ha5 ha6)
  · exact (Cert.ReferenceIdeal.Read.val_main_v269_eq (F := Ideal) (launchContents m' c)).trans
      (perplexity_agree m c h ha0 ha1 ha2 ha3 ha4 ha5 ha6)
  · exact (Cert.ReferenceIdeal.Read.val_main_v230_eq (F := Ideal) (launchContents m' c)).trans
      (encodings_agree m c h ha0 ha2 ha3 ha4 ha5 ha6)
  · exact (Cert.ReferenceIdeal.Read.val_main_v270_eq (F := Ideal) (launchContents m' c)).trans
      (distances_agree m c h ha0 ha2 ha3 ha4 ha5 ha6)

/-- A reference run ends with its arguments as they were and every counter at nought. -/
theorem reference_frame : Cert.quiescent_ReferenceIdeal (hReferenceIdeal := Cert.ReferenceIdeal.Gen.facts) := by
  intro m g _
  exact (θ_run Cert.ReferenceIdeal.defs _ _).mono
    (fun r hr => ⟨fun c => (hr c).2.2.2.2.2, Idealize.ShloMosaic.sem_eq_zero_of_no_sems (by decide) r.2⟩)
    (Cert.ReferenceIdeal.Value.run (F := Ideal) m g)

/-- All the claims. -/
theorem claim : Cert.Claim := ⟨Cert.Kernel.Gen.facts, Cert.KernelIdeal.Gen.facts, Cert.ReferenceIdeal.Gen.facts, Cert.Pre_finite_untied.Gen.facts,
  kernel_frame, kernelIdeal_frame, kernelIdeal_frame_pre, reference_frame, fun m g _ => reference_frame m g trivial, trivial, agree⟩

end Cert.Proof

end
